-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![16384, 256]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x256 : Shape := ⟨2, ![256, 256]⟩
abbrev S32x16x256 : Shape := ⟨3, ![32, 16, 256]⟩
abbrev S32 : Shape := ⟨1, ![32]⟩
abbrev S_ : Shape := ⟨0, ![]⟩
abbrev S1 : Shape := ⟨1, ![1]⟩
abbrev S1x16x256 : Shape := ⟨3, ![1, 16, 256]⟩
abbrev S16x256 : Shape := ⟨2, ![16, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x256, .bf16⟩
  | .hbm, ⟨1, _⟩ => ⟨S256x256, .bf16⟩
  | .hbm, ⟨2, _⟩ => ⟨S512x256, .f32⟩
  | .local _ .vmem, ⟨0, _⟩ => ⟨S512x256, .bf16⟩
  | .local _ .vmem, ⟨1, _⟩ => ⟨S256x256, .bf16⟩
  | .local _ .vmem, ⟨2, _⟩ => ⟨S512x256, .f32⟩
  | .local _ .vmem, ⟨3, _⟩ => ⟨S512x256, .bf16⟩
  | .local _ .vmem, ⟨4, _⟩ => ⟨S32x16x256, .bf16⟩
  | .local _ .vmem, ⟨5, _⟩ => ⟨S32x16x256, .bf16⟩
  | _, _ => ⟨S512x256, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_283 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v412 : BitVec 32 := Scalar.addi v2 c1_i32_283
  let c32_i32_284 : BitVec 32 := 32#32
  let c0_i32_285 : BitVec 32 := 0#32
  let v413 : BitVec 1 := Scalar.cmpi .eq c32_i32_284 c0_i32_285
  let c1_i32_286 : BitVec 32 := 1#32
  let v414 : BitVec 32 := Scalar.select v413 c1_i32_286 c32_i32_284
  let v415 : BitVec 32 := Scalar.remsi v412 v414
  let c0_i32_288 : BitVec 32 := 0#32
  let v417 : BitVec 1 := Scalar.cmpi .slt v415 c0_i32_288
  let c0_i32_289 : BitVec 32 := 0#32
  let v418 : BitVec 1 := Scalar.cmpi .slt v414 c0_i32_289
  let v419 : BitVec 1 := Scalar.xori v417 v418
  let c0_i32_287 : BitVec 32 := 0#32
  let v416 : BitVec 1 := Scalar.cmpi .ne v415 c0_i32_287
  let v420 : BitVec 1 := Scalar.andi v419 v416
  let v421 : BitVec 32 := Scalar.addi v415 v414
  let v422 : BitVec 32 := Scalar.select v420 v421 v415
  ![v422.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_293 : BitVec 32 := 0#32
  let c0_i32_294 : BitVec 32 := 0#32
  ![v2.toNat, 0, 0]
def k0_off4 (d0 : Dev nD) (c1_i32_283 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v412 : BitVec 32 := Scalar.addi v2 c1_i32_283
  let c32_i32_284 : BitVec 32 := 32#32
  let c0_i32_285 : BitVec 32 := 0#32
  let v413 : BitVec 1 := Scalar.cmpi .eq c32_i32_284 c0_i32_285
  let c1_i32_286 : BitVec 32 := 1#32
  let v414 : BitVec 32 := Scalar.select v413 c1_i32_286 c32_i32_284
  let v415 : BitVec 32 := Scalar.remsi v412 v414
  let c0_i32_288 : BitVec 32 := 0#32
  let v417 : BitVec 1 := Scalar.cmpi .slt v415 c0_i32_288
  let c0_i32_289 : BitVec 32 := 0#32
  let v418 : BitVec 1 := Scalar.cmpi .slt v414 c0_i32_289
  let v419 : BitVec 1 := Scalar.xori v417 v418
  let c0_i32_287 : BitVec 32 := 0#32
  let v416 : BitVec 1 := Scalar.cmpi .ne v415 c0_i32_287
  let v420 : BitVec 1 := Scalar.andi v419 v416
  let v421 : BitVec 32 := Scalar.addi v415 v414
  let v422 : BitVec 32 := Scalar.select v420 v421 v415
  let c16_i32_290 : BitVec 32 := 16#32
  let v423 : BitVec 32 := Scalar.muli v422 c16_i32_290
  let c0_i32_295 : BitVec 32 := 0#32
  ![v423.toNat, 0]
def k0_dev32 (d0 : Dev nD) : Nat :=
  let c0_i32_292 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_283 : BitVec 32 := 1#32
  let v412 : BitVec 32 := Scalar.addi v2 c1_i32_283
  let c32_i32_284 : BitVec 32 := 32#32
  let c0_i32_285 : BitVec 32 := 0#32
  let v413 : BitVec 1 := Scalar.cmpi .eq c32_i32_284 c0_i32_285
  let c1_i32_286 : BitVec 32 := 1#32
  let v414 : BitVec 32 := Scalar.select v413 c1_i32_286 c32_i32_284
  let v415 : BitVec 32 := Scalar.remsi v412 v414
  let c0_i32_288 : BitVec 32 := 0#32
  let v417 : BitVec 1 := Scalar.cmpi .slt v415 c0_i32_288
  let c0_i32_289 : BitVec 32 := 0#32
  let v418 : BitVec 1 := Scalar.cmpi .slt v414 c0_i32_289
  let v419 : BitVec 1 := Scalar.xori v417 v418
  let c0_i32_287 : BitVec 32 := 0#32
  let v416 : BitVec 1 := Scalar.cmpi .ne v415 c0_i32_287
  let v420 : BitVec 1 := Scalar.andi v419 v416
  let v421 : BitVec 32 := Scalar.addi v415 v414
  let v422 : BitVec 32 := Scalar.select v420 v421 v415
  let c1_i32_291 : BitVec 32 := 1#32
  let v424 : BitVec 32 := Scalar.muli v422 c1_i32_291
  let v425 : BitVec 32 := Scalar.addi c0_i32_292 v424
  v425.toNat
def k0_dev33 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_296 : BitVec 32 := 2#32
  let v433 : BitVec 32 := Scalar.addi v2 c2_i32_296
  let c32_i32_297 : BitVec 32 := 32#32
  let c0_i32_298 : BitVec 32 := 0#32
  let v434 : BitVec 1 := Scalar.cmpi .eq c32_i32_297 c0_i32_298
  let c1_i32_299 : BitVec 32 := 1#32
  let v435 : BitVec 32 := Scalar.select v434 c1_i32_299 c32_i32_297
  let v436 : BitVec 32 := Scalar.remsi v433 v435
  let c0_i32_301 : BitVec 32 := 0#32
  let v438 : BitVec 1 := Scalar.cmpi .slt v436 c0_i32_301
  let c0_i32_302 : BitVec 32 := 0#32
  let v439 : BitVec 1 := Scalar.cmpi .slt v435 c0_i32_302
  let v440 : BitVec 1 := Scalar.xori v438 v439
  let c0_i32_300 : BitVec 32 := 0#32
  let v437 : BitVec 1 := Scalar.cmpi .ne v436 c0_i32_300
  let v441 : BitVec 1 := Scalar.andi v440 v437
  let v442 : BitVec 32 := Scalar.addi v436 v435
  let v443 : BitVec 32 := Scalar.select v441 v442 v436
  let c1_i32_304 : BitVec 32 := 1#32
  let v445 : BitVec 32 := Scalar.muli v443 c1_i32_304
  let v446 : BitVec 32 := Scalar.addi c0_i32_305 v445
  v446.toNat
def k0_dev34 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_309 : BitVec 32 := 3#32
  let v454 : BitVec 32 := Scalar.addi v2 c3_i32_309
  let c32_i32_310 : BitVec 32 := 32#32
  let c0_i32_311 : BitVec 32 := 0#32
  let v455 : BitVec 1 := Scalar.cmpi .eq c32_i32_310 c0_i32_311
  let c1_i32_312 : BitVec 32 := 1#32
  let v456 : BitVec 32 := Scalar.select v455 c1_i32_312 c32_i32_310
  let v457 : BitVec 32 := Scalar.remsi v454 v456
  let c0_i32_314 : BitVec 32 := 0#32
  let v459 : BitVec 1 := Scalar.cmpi .slt v457 c0_i32_314
  let c0_i32_315 : BitVec 32 := 0#32
  let v460 : BitVec 1 := Scalar.cmpi .slt v456 c0_i32_315
  let v461 : BitVec 1 := Scalar.xori v459 v460
  let c0_i32_313 : BitVec 32 := 0#32
  let v458 : BitVec 1 := Scalar.cmpi .ne v457 c0_i32_313
  let v462 : BitVec 1 := Scalar.andi v461 v458
  let v463 : BitVec 32 := Scalar.addi v457 v456
  let v464 : BitVec 32 := Scalar.select v462 v463 v457
  let c1_i32_317 : BitVec 32 := 1#32
  let v466 : BitVec 32 := Scalar.muli v464 c1_i32_317
  let v467 : BitVec 32 := Scalar.addi c0_i32_318 v466
  v467.toNat
def k0_dev35 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_322 : BitVec 32 := 4#32
  let v475 : BitVec 32 := Scalar.addi v2 c4_i32_322
  let c32_i32_323 : BitVec 32 := 32#32
  let c0_i32_324 : BitVec 32 := 0#32
  let v476 : BitVec 1 := Scalar.cmpi .eq c32_i32_323 c0_i32_324
  let c1_i32_325 : BitVec 32 := 1#32
  let v477 : BitVec 32 := Scalar.select v476 c1_i32_325 c32_i32_323
  let v478 : BitVec 32 := Scalar.remsi v475 v477
  let c0_i32_327 : BitVec 32 := 0#32
  let v480 : BitVec 1 := Scalar.cmpi .slt v478 c0_i32_327
  let c0_i32_328 : BitVec 32 := 0#32
  let v481 : BitVec 1 := Scalar.cmpi .slt v477 c0_i32_328
  let v482 : BitVec 1 := Scalar.xori v480 v481
  let c0_i32_326 : BitVec 32 := 0#32
  let v479 : BitVec 1 := Scalar.cmpi .ne v478 c0_i32_326
  let v483 : BitVec 1 := Scalar.andi v482 v479
  let v484 : BitVec 32 := Scalar.addi v478 v477
  let v485 : BitVec 32 := Scalar.select v483 v484 v478
  let c1_i32_330 : BitVec 32 := 1#32
  let v487 : BitVec 32 := Scalar.muli v485 c1_i32_330
  let v488 : BitVec 32 := Scalar.addi c0_i32_331 v487
  v488.toNat
def k0_dev36 (d0 : Dev nD) : Nat :=
  let c0_i32_344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_335 : BitVec 32 := 5#32
  let v496 : BitVec 32 := Scalar.addi v2 c5_i32_335
  let c32_i32_336 : BitVec 32 := 32#32
  let c0_i32_337 : BitVec 32 := 0#32
  let v497 : BitVec 1 := Scalar.cmpi .eq c32_i32_336 c0_i32_337
  let c1_i32_338 : BitVec 32 := 1#32
  let v498 : BitVec 32 := Scalar.select v497 c1_i32_338 c32_i32_336
  let v499 : BitVec 32 := Scalar.remsi v496 v498
  let c0_i32_340 : BitVec 32 := 0#32
  let v501 : BitVec 1 := Scalar.cmpi .slt v499 c0_i32_340
  let c0_i32_341 : BitVec 32 := 0#32
  let v502 : BitVec 1 := Scalar.cmpi .slt v498 c0_i32_341
  let v503 : BitVec 1 := Scalar.xori v501 v502
  let c0_i32_339 : BitVec 32 := 0#32
  let v500 : BitVec 1 := Scalar.cmpi .ne v499 c0_i32_339
  let v504 : BitVec 1 := Scalar.andi v503 v500
  let v505 : BitVec 32 := Scalar.addi v499 v498
  let v506 : BitVec 32 := Scalar.select v504 v505 v499
  let c1_i32_343 : BitVec 32 := 1#32
  let v508 : BitVec 32 := Scalar.muli v506 c1_i32_343
  let v509 : BitVec 32 := Scalar.addi c0_i32_344 v508
  v509.toNat
def k0_dev37 (d0 : Dev nD) : Nat :=
  let c0_i32_357 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_348 : BitVec 32 := 6#32
  let v517 : BitVec 32 := Scalar.addi v2 c6_i32_348
  let c32_i32_349 : BitVec 32 := 32#32
  let c0_i32_350 : BitVec 32 := 0#32
  let v518 : BitVec 1 := Scalar.cmpi .eq c32_i32_349 c0_i32_350
  let c1_i32_351 : BitVec 32 := 1#32
  let v519 : BitVec 32 := Scalar.select v518 c1_i32_351 c32_i32_349
  let v520 : BitVec 32 := Scalar.remsi v517 v519
  let c0_i32_353 : BitVec 32 := 0#32
  let v522 : BitVec 1 := Scalar.cmpi .slt v520 c0_i32_353
  let c0_i32_354 : BitVec 32 := 0#32
  let v523 : BitVec 1 := Scalar.cmpi .slt v519 c0_i32_354
  let v524 : BitVec 1 := Scalar.xori v522 v523
  let c0_i32_352 : BitVec 32 := 0#32
  let v521 : BitVec 1 := Scalar.cmpi .ne v520 c0_i32_352
  let v525 : BitVec 1 := Scalar.andi v524 v521
  let v526 : BitVec 32 := Scalar.addi v520 v519
  let v527 : BitVec 32 := Scalar.select v525 v526 v520
  let c1_i32_356 : BitVec 32 := 1#32
  let v529 : BitVec 32 := Scalar.muli v527 c1_i32_356
  let v530 : BitVec 32 := Scalar.addi c0_i32_357 v529
  v530.toNat
def k0_dev38 (d0 : Dev nD) : Nat :=
  let c0_i32_370 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_361 : BitVec 32 := 7#32
  let v538 : BitVec 32 := Scalar.addi v2 c7_i32_361
  let c32_i32_362 : BitVec 32 := 32#32
  let c0_i32_363 : BitVec 32 := 0#32
  let v539 : BitVec 1 := Scalar.cmpi .eq c32_i32_362 c0_i32_363
  let c1_i32_364 : BitVec 32 := 1#32
  let v540 : BitVec 32 := Scalar.select v539 c1_i32_364 c32_i32_362
  let v541 : BitVec 32 := Scalar.remsi v538 v540
  let c0_i32_366 : BitVec 32 := 0#32
  let v543 : BitVec 1 := Scalar.cmpi .slt v541 c0_i32_366
  let c0_i32_367 : BitVec 32 := 0#32
  let v544 : BitVec 1 := Scalar.cmpi .slt v540 c0_i32_367
  let v545 : BitVec 1 := Scalar.xori v543 v544
  let c0_i32_365 : BitVec 32 := 0#32
  let v542 : BitVec 1 := Scalar.cmpi .ne v541 c0_i32_365
  let v546 : BitVec 1 := Scalar.andi v545 v542
  let v547 : BitVec 32 := Scalar.addi v541 v540
  let v548 : BitVec 32 := Scalar.select v546 v547 v541
  let c1_i32_369 : BitVec 32 := 1#32
  let v550 : BitVec 32 := Scalar.muli v548 c1_i32_369
  let v551 : BitVec 32 := Scalar.addi c0_i32_370 v550
  v551.toNat
def k0_dev39 (d0 : Dev nD) : Nat :=
  let c0_i32_383 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_374 : BitVec 32 := 8#32
  let v559 : BitVec 32 := Scalar.addi v2 c8_i32_374
  let c32_i32_375 : BitVec 32 := 32#32
  let c0_i32_376 : BitVec 32 := 0#32
  let v560 : BitVec 1 := Scalar.cmpi .eq c32_i32_375 c0_i32_376
  let c1_i32_377 : BitVec 32 := 1#32
  let v561 : BitVec 32 := Scalar.select v560 c1_i32_377 c32_i32_375
  let v562 : BitVec 32 := Scalar.remsi v559 v561
  let c0_i32_379 : BitVec 32 := 0#32
  let v564 : BitVec 1 := Scalar.cmpi .slt v562 c0_i32_379
  let c0_i32_380 : BitVec 32 := 0#32
  let v565 : BitVec 1 := Scalar.cmpi .slt v561 c0_i32_380
  let v566 : BitVec 1 := Scalar.xori v564 v565
  let c0_i32_378 : BitVec 32 := 0#32
  let v563 : BitVec 1 := Scalar.cmpi .ne v562 c0_i32_378
  let v567 : BitVec 1 := Scalar.andi v566 v563
  let v568 : BitVec 32 := Scalar.addi v562 v561
  let v569 : BitVec 32 := Scalar.select v567 v568 v562
  let c1_i32_382 : BitVec 32 := 1#32
  let v571 : BitVec 32 := Scalar.muli v569 c1_i32_382
  let v572 : BitVec 32 := Scalar.addi c0_i32_383 v571
  v572.toNat
def k0_dev40 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_387 : BitVec 32 := 9#32
  let v580 : BitVec 32 := Scalar.addi v2 c9_i32_387
  let c32_i32_388 : BitVec 32 := 32#32
  let c0_i32_389 : BitVec 32 := 0#32
  let v581 : BitVec 1 := Scalar.cmpi .eq c32_i32_388 c0_i32_389
  let c1_i32_390 : BitVec 32 := 1#32
  let v582 : BitVec 32 := Scalar.select v581 c1_i32_390 c32_i32_388
  let v583 : BitVec 32 := Scalar.remsi v580 v582
  let c0_i32_392 : BitVec 32 := 0#32
  let v585 : BitVec 1 := Scalar.cmpi .slt v583 c0_i32_392
  let c0_i32_393 : BitVec 32 := 0#32
  let v586 : BitVec 1 := Scalar.cmpi .slt v582 c0_i32_393
  let v587 : BitVec 1 := Scalar.xori v585 v586
  let c0_i32_391 : BitVec 32 := 0#32
  let v584 : BitVec 1 := Scalar.cmpi .ne v583 c0_i32_391
  let v588 : BitVec 1 := Scalar.andi v587 v584
  let v589 : BitVec 32 := Scalar.addi v583 v582
  let v590 : BitVec 32 := Scalar.select v588 v589 v583
  let c1_i32_395 : BitVec 32 := 1#32
  let v592 : BitVec 32 := Scalar.muli v590 c1_i32_395
  let v593 : BitVec 32 := Scalar.addi c0_i32_396 v592
  v593.toNat
def k0_dev41 (d0 : Dev nD) : Nat :=
  let c0_i32_409 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_400 : BitVec 32 := 10#32
  let v601 : BitVec 32 := Scalar.addi v2 c10_i32_400
  let c32_i32_401 : BitVec 32 := 32#32
  let c0_i32_402 : BitVec 32 := 0#32
  let v602 : BitVec 1 := Scalar.cmpi .eq c32_i32_401 c0_i32_402
  let c1_i32_403 : BitVec 32 := 1#32
  let v603 : BitVec 32 := Scalar.select v602 c1_i32_403 c32_i32_401
  let v604 : BitVec 32 := Scalar.remsi v601 v603
  let c0_i32_405 : BitVec 32 := 0#32
  let v606 : BitVec 1 := Scalar.cmpi .slt v604 c0_i32_405
  let c0_i32_406 : BitVec 32 := 0#32
  let v607 : BitVec 1 := Scalar.cmpi .slt v603 c0_i32_406
  let v608 : BitVec 1 := Scalar.xori v606 v607
  let c0_i32_404 : BitVec 32 := 0#32
  let v605 : BitVec 1 := Scalar.cmpi .ne v604 c0_i32_404
  let v609 : BitVec 1 := Scalar.andi v608 v605
  let v610 : BitVec 32 := Scalar.addi v604 v603
  let v611 : BitVec 32 := Scalar.select v609 v610 v604
  let c1_i32_408 : BitVec 32 := 1#32
  let v613 : BitVec 32 := Scalar.muli v611 c1_i32_408
  let v614 : BitVec 32 := Scalar.addi c0_i32_409 v613
  v614.toNat
def k0_dev42 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_413 : BitVec 32 := 11#32
  let v622 : BitVec 32 := Scalar.addi v2 c11_i32_413
  let c32_i32_414 : BitVec 32 := 32#32
  let c0_i32_415 : BitVec 32 := 0#32
  let v623 : BitVec 1 := Scalar.cmpi .eq c32_i32_414 c0_i32_415
  let c1_i32_416 : BitVec 32 := 1#32
  let v624 : BitVec 32 := Scalar.select v623 c1_i32_416 c32_i32_414
  let v625 : BitVec 32 := Scalar.remsi v622 v624
  let c0_i32_418 : BitVec 32 := 0#32
  let v627 : BitVec 1 := Scalar.cmpi .slt v625 c0_i32_418
  let c0_i32_419 : BitVec 32 := 0#32
  let v628 : BitVec 1 := Scalar.cmpi .slt v624 c0_i32_419
  let v629 : BitVec 1 := Scalar.xori v627 v628
  let c0_i32_417 : BitVec 32 := 0#32
  let v626 : BitVec 1 := Scalar.cmpi .ne v625 c0_i32_417
  let v630 : BitVec 1 := Scalar.andi v629 v626
  let v631 : BitVec 32 := Scalar.addi v625 v624
  let v632 : BitVec 32 := Scalar.select v630 v631 v625
  let c1_i32_421 : BitVec 32 := 1#32
  let v634 : BitVec 32 := Scalar.muli v632 c1_i32_421
  let v635 : BitVec 32 := Scalar.addi c0_i32_422 v634
  v635.toNat
def k0_dev43 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_426 : BitVec 32 := 12#32
  let v643 : BitVec 32 := Scalar.addi v2 c12_i32_426
  let c32_i32_427 : BitVec 32 := 32#32
  let c0_i32_428 : BitVec 32 := 0#32
  let v644 : BitVec 1 := Scalar.cmpi .eq c32_i32_427 c0_i32_428
  let c1_i32_429 : BitVec 32 := 1#32
  let v645 : BitVec 32 := Scalar.select v644 c1_i32_429 c32_i32_427
  let v646 : BitVec 32 := Scalar.remsi v643 v645
  let c0_i32_431 : BitVec 32 := 0#32
  let v648 : BitVec 1 := Scalar.cmpi .slt v646 c0_i32_431
  let c0_i32_432 : BitVec 32 := 0#32
  let v649 : BitVec 1 := Scalar.cmpi .slt v645 c0_i32_432
  let v650 : BitVec 1 := Scalar.xori v648 v649
  let c0_i32_430 : BitVec 32 := 0#32
  let v647 : BitVec 1 := Scalar.cmpi .ne v646 c0_i32_430
  let v651 : BitVec 1 := Scalar.andi v650 v647
  let v652 : BitVec 32 := Scalar.addi v646 v645
  let v653 : BitVec 32 := Scalar.select v651 v652 v646
  let c1_i32_434 : BitVec 32 := 1#32
  let v655 : BitVec 32 := Scalar.muli v653 c1_i32_434
  let v656 : BitVec 32 := Scalar.addi c0_i32_435 v655
  v656.toNat
def k0_dev44 (d0 : Dev nD) : Nat :=
  let c0_i32_448 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_439 : BitVec 32 := 13#32
  let v664 : BitVec 32 := Scalar.addi v2 c13_i32_439
  let c32_i32_440 : BitVec 32 := 32#32
  let c0_i32_441 : BitVec 32 := 0#32
  let v665 : BitVec 1 := Scalar.cmpi .eq c32_i32_440 c0_i32_441
  let c1_i32_442 : BitVec 32 := 1#32
  let v666 : BitVec 32 := Scalar.select v665 c1_i32_442 c32_i32_440
  let v667 : BitVec 32 := Scalar.remsi v664 v666
  let c0_i32_444 : BitVec 32 := 0#32
  let v669 : BitVec 1 := Scalar.cmpi .slt v667 c0_i32_444
  let c0_i32_445 : BitVec 32 := 0#32
  let v670 : BitVec 1 := Scalar.cmpi .slt v666 c0_i32_445
  let v671 : BitVec 1 := Scalar.xori v669 v670
  let c0_i32_443 : BitVec 32 := 0#32
  let v668 : BitVec 1 := Scalar.cmpi .ne v667 c0_i32_443
  let v672 : BitVec 1 := Scalar.andi v671 v668
  let v673 : BitVec 32 := Scalar.addi v667 v666
  let v674 : BitVec 32 := Scalar.select v672 v673 v667
  let c1_i32_447 : BitVec 32 := 1#32
  let v676 : BitVec 32 := Scalar.muli v674 c1_i32_447
  let v677 : BitVec 32 := Scalar.addi c0_i32_448 v676
  v677.toNat
def k0_dev45 (d0 : Dev nD) : Nat :=
  let c0_i32_461 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_452 : BitVec 32 := 14#32
  let v685 : BitVec 32 := Scalar.addi v2 c14_i32_452
  let c32_i32_453 : BitVec 32 := 32#32
  let c0_i32_454 : BitVec 32 := 0#32
  let v686 : BitVec 1 := Scalar.cmpi .eq c32_i32_453 c0_i32_454
  let c1_i32_455 : BitVec 32 := 1#32
  let v687 : BitVec 32 := Scalar.select v686 c1_i32_455 c32_i32_453
  let v688 : BitVec 32 := Scalar.remsi v685 v687
  let c0_i32_457 : BitVec 32 := 0#32
  let v690 : BitVec 1 := Scalar.cmpi .slt v688 c0_i32_457
  let c0_i32_458 : BitVec 32 := 0#32
  let v691 : BitVec 1 := Scalar.cmpi .slt v687 c0_i32_458
  let v692 : BitVec 1 := Scalar.xori v690 v691
  let c0_i32_456 : BitVec 32 := 0#32
  let v689 : BitVec 1 := Scalar.cmpi .ne v688 c0_i32_456
  let v693 : BitVec 1 := Scalar.andi v692 v689
  let v694 : BitVec 32 := Scalar.addi v688 v687
  let v695 : BitVec 32 := Scalar.select v693 v694 v688
  let c1_i32_460 : BitVec 32 := 1#32
  let v697 : BitVec 32 := Scalar.muli v695 c1_i32_460
  let v698 : BitVec 32 := Scalar.addi c0_i32_461 v697
  v698.toNat
def k0_dev46 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_465 : BitVec 32 := 15#32
  let v706 : BitVec 32 := Scalar.addi v2 c15_i32_465
  let c32_i32_466 : BitVec 32 := 32#32
  let c0_i32_467 : BitVec 32 := 0#32
  let v707 : BitVec 1 := Scalar.cmpi .eq c32_i32_466 c0_i32_467
  let c1_i32_468 : BitVec 32 := 1#32
  let v708 : BitVec 32 := Scalar.select v707 c1_i32_468 c32_i32_466
  let v709 : BitVec 32 := Scalar.remsi v706 v708
  let c0_i32_470 : BitVec 32 := 0#32
  let v711 : BitVec 1 := Scalar.cmpi .slt v709 c0_i32_470
  let c0_i32_471 : BitVec 32 := 0#32
  let v712 : BitVec 1 := Scalar.cmpi .slt v708 c0_i32_471
  let v713 : BitVec 1 := Scalar.xori v711 v712
  let c0_i32_469 : BitVec 32 := 0#32
  let v710 : BitVec 1 := Scalar.cmpi .ne v709 c0_i32_469
  let v714 : BitVec 1 := Scalar.andi v713 v710
  let v715 : BitVec 32 := Scalar.addi v709 v708
  let v716 : BitVec 32 := Scalar.select v714 v715 v709
  let c1_i32_473 : BitVec 32 := 1#32
  let v718 : BitVec 32 := Scalar.muli v716 c1_i32_473
  let v719 : BitVec 32 := Scalar.addi c0_i32_474 v718
  v719.toNat
def k0_dev47 (d0 : Dev nD) : Nat :=
  let c0_i32_487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_478 : BitVec 32 := 16#32
  let v727 : BitVec 32 := Scalar.addi v2 c16_i32_478
  let c32_i32_479 : BitVec 32 := 32#32
  let c0_i32_480 : BitVec 32 := 0#32
  let v728 : BitVec 1 := Scalar.cmpi .eq c32_i32_479 c0_i32_480
  let c1_i32_481 : BitVec 32 := 1#32
  let v729 : BitVec 32 := Scalar.select v728 c1_i32_481 c32_i32_479
  let v730 : BitVec 32 := Scalar.remsi v727 v729
  let c0_i32_483 : BitVec 32 := 0#32
  let v732 : BitVec 1 := Scalar.cmpi .slt v730 c0_i32_483
  let c0_i32_484 : BitVec 32 := 0#32
  let v733 : BitVec 1 := Scalar.cmpi .slt v729 c0_i32_484
  let v734 : BitVec 1 := Scalar.xori v732 v733
  let c0_i32_482 : BitVec 32 := 0#32
  let v731 : BitVec 1 := Scalar.cmpi .ne v730 c0_i32_482
  let v735 : BitVec 1 := Scalar.andi v734 v731
  let v736 : BitVec 32 := Scalar.addi v730 v729
  let v737 : BitVec 32 := Scalar.select v735 v736 v730
  let c1_i32_486 : BitVec 32 := 1#32
  let v739 : BitVec 32 := Scalar.muli v737 c1_i32_486
  let v740 : BitVec 32 := Scalar.addi c0_i32_487 v739
  v740.toNat
def k0_dev48 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_491 : BitVec 32 := 17#32
  let v748 : BitVec 32 := Scalar.addi v2 c17_i32_491
  let c32_i32_492 : BitVec 32 := 32#32
  let c0_i32_493 : BitVec 32 := 0#32
  let v749 : BitVec 1 := Scalar.cmpi .eq c32_i32_492 c0_i32_493
  let c1_i32_494 : BitVec 32 := 1#32
  let v750 : BitVec 32 := Scalar.select v749 c1_i32_494 c32_i32_492
  let v751 : BitVec 32 := Scalar.remsi v748 v750
  let c0_i32_496 : BitVec 32 := 0#32
  let v753 : BitVec 1 := Scalar.cmpi .slt v751 c0_i32_496
  let c0_i32_497 : BitVec 32 := 0#32
  let v754 : BitVec 1 := Scalar.cmpi .slt v750 c0_i32_497
  let v755 : BitVec 1 := Scalar.xori v753 v754
  let c0_i32_495 : BitVec 32 := 0#32
  let v752 : BitVec 1 := Scalar.cmpi .ne v751 c0_i32_495
  let v756 : BitVec 1 := Scalar.andi v755 v752
  let v757 : BitVec 32 := Scalar.addi v751 v750
  let v758 : BitVec 32 := Scalar.select v756 v757 v751
  let c1_i32_499 : BitVec 32 := 1#32
  let v760 : BitVec 32 := Scalar.muli v758 c1_i32_499
  let v761 : BitVec 32 := Scalar.addi c0_i32_500 v760
  v761.toNat
def k0_dev49 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_504 : BitVec 32 := 18#32
  let v769 : BitVec 32 := Scalar.addi v2 c18_i32_504
  let c32_i32_505 : BitVec 32 := 32#32
  let c0_i32_506 : BitVec 32 := 0#32
  let v770 : BitVec 1 := Scalar.cmpi .eq c32_i32_505 c0_i32_506
  let c1_i32_507 : BitVec 32 := 1#32
  let v771 : BitVec 32 := Scalar.select v770 c1_i32_507 c32_i32_505
  let v772 : BitVec 32 := Scalar.remsi v769 v771
  let c0_i32_509 : BitVec 32 := 0#32
  let v774 : BitVec 1 := Scalar.cmpi .slt v772 c0_i32_509
  let c0_i32_510 : BitVec 32 := 0#32
  let v775 : BitVec 1 := Scalar.cmpi .slt v771 c0_i32_510
  let v776 : BitVec 1 := Scalar.xori v774 v775
  let c0_i32_508 : BitVec 32 := 0#32
  let v773 : BitVec 1 := Scalar.cmpi .ne v772 c0_i32_508
  let v777 : BitVec 1 := Scalar.andi v776 v773
  let v778 : BitVec 32 := Scalar.addi v772 v771
  let v779 : BitVec 32 := Scalar.select v777 v778 v772
  let c1_i32_512 : BitVec 32 := 1#32
  let v781 : BitVec 32 := Scalar.muli v779 c1_i32_512
  let v782 : BitVec 32 := Scalar.addi c0_i32_513 v781
  v782.toNat
def k0_dev50 (d0 : Dev nD) : Nat :=
  let c0_i32_526 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_517 : BitVec 32 := 19#32
  let v790 : BitVec 32 := Scalar.addi v2 c19_i32_517
  let c32_i32_518 : BitVec 32 := 32#32
  let c0_i32_519 : BitVec 32 := 0#32
  let v791 : BitVec 1 := Scalar.cmpi .eq c32_i32_518 c0_i32_519
  let c1_i32_520 : BitVec 32 := 1#32
  let v792 : BitVec 32 := Scalar.select v791 c1_i32_520 c32_i32_518
  let v793 : BitVec 32 := Scalar.remsi v790 v792
  let c0_i32_522 : BitVec 32 := 0#32
  let v795 : BitVec 1 := Scalar.cmpi .slt v793 c0_i32_522
  let c0_i32_523 : BitVec 32 := 0#32
  let v796 : BitVec 1 := Scalar.cmpi .slt v792 c0_i32_523
  let v797 : BitVec 1 := Scalar.xori v795 v796
  let c0_i32_521 : BitVec 32 := 0#32
  let v794 : BitVec 1 := Scalar.cmpi .ne v793 c0_i32_521
  let v798 : BitVec 1 := Scalar.andi v797 v794
  let v799 : BitVec 32 := Scalar.addi v793 v792
  let v800 : BitVec 32 := Scalar.select v798 v799 v793
  let c1_i32_525 : BitVec 32 := 1#32
  let v802 : BitVec 32 := Scalar.muli v800 c1_i32_525
  let v803 : BitVec 32 := Scalar.addi c0_i32_526 v802
  v803.toNat
def k0_dev51 (d0 : Dev nD) : Nat :=
  let c0_i32_539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_530 : BitVec 32 := 20#32
  let v811 : BitVec 32 := Scalar.addi v2 c20_i32_530
  let c32_i32_531 : BitVec 32 := 32#32
  let c0_i32_532 : BitVec 32 := 0#32
  let v812 : BitVec 1 := Scalar.cmpi .eq c32_i32_531 c0_i32_532
  let c1_i32_533 : BitVec 32 := 1#32
  let v813 : BitVec 32 := Scalar.select v812 c1_i32_533 c32_i32_531
  let v814 : BitVec 32 := Scalar.remsi v811 v813
  let c0_i32_535 : BitVec 32 := 0#32
  let v816 : BitVec 1 := Scalar.cmpi .slt v814 c0_i32_535
  let c0_i32_536 : BitVec 32 := 0#32
  let v817 : BitVec 1 := Scalar.cmpi .slt v813 c0_i32_536
  let v818 : BitVec 1 := Scalar.xori v816 v817
  let c0_i32_534 : BitVec 32 := 0#32
  let v815 : BitVec 1 := Scalar.cmpi .ne v814 c0_i32_534
  let v819 : BitVec 1 := Scalar.andi v818 v815
  let v820 : BitVec 32 := Scalar.addi v814 v813
  let v821 : BitVec 32 := Scalar.select v819 v820 v814
  let c1_i32_538 : BitVec 32 := 1#32
  let v823 : BitVec 32 := Scalar.muli v821 c1_i32_538
  let v824 : BitVec 32 := Scalar.addi c0_i32_539 v823
  v824.toNat
def k0_dev52 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_543 : BitVec 32 := 21#32
  let v832 : BitVec 32 := Scalar.addi v2 c21_i32_543
  let c32_i32_544 : BitVec 32 := 32#32
  let c0_i32_545 : BitVec 32 := 0#32
  let v833 : BitVec 1 := Scalar.cmpi .eq c32_i32_544 c0_i32_545
  let c1_i32_546 : BitVec 32 := 1#32
  let v834 : BitVec 32 := Scalar.select v833 c1_i32_546 c32_i32_544
  let v835 : BitVec 32 := Scalar.remsi v832 v834
  let c0_i32_548 : BitVec 32 := 0#32
  let v837 : BitVec 1 := Scalar.cmpi .slt v835 c0_i32_548
  let c0_i32_549 : BitVec 32 := 0#32
  let v838 : BitVec 1 := Scalar.cmpi .slt v834 c0_i32_549
  let v839 : BitVec 1 := Scalar.xori v837 v838
  let c0_i32_547 : BitVec 32 := 0#32
  let v836 : BitVec 1 := Scalar.cmpi .ne v835 c0_i32_547
  let v840 : BitVec 1 := Scalar.andi v839 v836
  let v841 : BitVec 32 := Scalar.addi v835 v834
  let v842 : BitVec 32 := Scalar.select v840 v841 v835
  let c1_i32_551 : BitVec 32 := 1#32
  let v844 : BitVec 32 := Scalar.muli v842 c1_i32_551
  let v845 : BitVec 32 := Scalar.addi c0_i32_552 v844
  v845.toNat
def k0_dev53 (d0 : Dev nD) : Nat :=
  let c0_i32_565 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_556 : BitVec 32 := 22#32
  let v853 : BitVec 32 := Scalar.addi v2 c22_i32_556
  let c32_i32_557 : BitVec 32 := 32#32
  let c0_i32_558 : BitVec 32 := 0#32
  let v854 : BitVec 1 := Scalar.cmpi .eq c32_i32_557 c0_i32_558
  let c1_i32_559 : BitVec 32 := 1#32
  let v855 : BitVec 32 := Scalar.select v854 c1_i32_559 c32_i32_557
  let v856 : BitVec 32 := Scalar.remsi v853 v855
  let c0_i32_561 : BitVec 32 := 0#32
  let v858 : BitVec 1 := Scalar.cmpi .slt v856 c0_i32_561
  let c0_i32_562 : BitVec 32 := 0#32
  let v859 : BitVec 1 := Scalar.cmpi .slt v855 c0_i32_562
  let v860 : BitVec 1 := Scalar.xori v858 v859
  let c0_i32_560 : BitVec 32 := 0#32
  let v857 : BitVec 1 := Scalar.cmpi .ne v856 c0_i32_560
  let v861 : BitVec 1 := Scalar.andi v860 v857
  let v862 : BitVec 32 := Scalar.addi v856 v855
  let v863 : BitVec 32 := Scalar.select v861 v862 v856
  let c1_i32_564 : BitVec 32 := 1#32
  let v865 : BitVec 32 := Scalar.muli v863 c1_i32_564
  let v866 : BitVec 32 := Scalar.addi c0_i32_565 v865
  v866.toNat
def k0_dev54 (d0 : Dev nD) : Nat :=
  let c0_i32_578 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_569 : BitVec 32 := 23#32
  let v874 : BitVec 32 := Scalar.addi v2 c23_i32_569
  let c32_i32_570 : BitVec 32 := 32#32
  let c0_i32_571 : BitVec 32 := 0#32
  let v875 : BitVec 1 := Scalar.cmpi .eq c32_i32_570 c0_i32_571
  let c1_i32_572 : BitVec 32 := 1#32
  let v876 : BitVec 32 := Scalar.select v875 c1_i32_572 c32_i32_570
  let v877 : BitVec 32 := Scalar.remsi v874 v876
  let c0_i32_574 : BitVec 32 := 0#32
  let v879 : BitVec 1 := Scalar.cmpi .slt v877 c0_i32_574
  let c0_i32_575 : BitVec 32 := 0#32
  let v880 : BitVec 1 := Scalar.cmpi .slt v876 c0_i32_575
  let v881 : BitVec 1 := Scalar.xori v879 v880
  let c0_i32_573 : BitVec 32 := 0#32
  let v878 : BitVec 1 := Scalar.cmpi .ne v877 c0_i32_573
  let v882 : BitVec 1 := Scalar.andi v881 v878
  let v883 : BitVec 32 := Scalar.addi v877 v876
  let v884 : BitVec 32 := Scalar.select v882 v883 v877
  let c1_i32_577 : BitVec 32 := 1#32
  let v886 : BitVec 32 := Scalar.muli v884 c1_i32_577
  let v887 : BitVec 32 := Scalar.addi c0_i32_578 v886
  v887.toNat
def k0_dev55 (d0 : Dev nD) : Nat :=
  let c0_i32_591 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_582 : BitVec 32 := 24#32
  let v895 : BitVec 32 := Scalar.addi v2 c24_i32_582
  let c32_i32_583 : BitVec 32 := 32#32
  let c0_i32_584 : BitVec 32 := 0#32
  let v896 : BitVec 1 := Scalar.cmpi .eq c32_i32_583 c0_i32_584
  let c1_i32_585 : BitVec 32 := 1#32
  let v897 : BitVec 32 := Scalar.select v896 c1_i32_585 c32_i32_583
  let v898 : BitVec 32 := Scalar.remsi v895 v897
  let c0_i32_587 : BitVec 32 := 0#32
  let v900 : BitVec 1 := Scalar.cmpi .slt v898 c0_i32_587
  let c0_i32_588 : BitVec 32 := 0#32
  let v901 : BitVec 1 := Scalar.cmpi .slt v897 c0_i32_588
  let v902 : BitVec 1 := Scalar.xori v900 v901
  let c0_i32_586 : BitVec 32 := 0#32
  let v899 : BitVec 1 := Scalar.cmpi .ne v898 c0_i32_586
  let v903 : BitVec 1 := Scalar.andi v902 v899
  let v904 : BitVec 32 := Scalar.addi v898 v897
  let v905 : BitVec 32 := Scalar.select v903 v904 v898
  let c1_i32_590 : BitVec 32 := 1#32
  let v907 : BitVec 32 := Scalar.muli v905 c1_i32_590
  let v908 : BitVec 32 := Scalar.addi c0_i32_591 v907
  v908.toNat
def k0_dev56 (d0 : Dev nD) : Nat :=
  let c0_i32_604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_595 : BitVec 32 := 25#32
  let v916 : BitVec 32 := Scalar.addi v2 c25_i32_595
  let c32_i32_596 : BitVec 32 := 32#32
  let c0_i32_597 : BitVec 32 := 0#32
  let v917 : BitVec 1 := Scalar.cmpi .eq c32_i32_596 c0_i32_597
  let c1_i32_598 : BitVec 32 := 1#32
  let v918 : BitVec 32 := Scalar.select v917 c1_i32_598 c32_i32_596
  let v919 : BitVec 32 := Scalar.remsi v916 v918
  let c0_i32_600 : BitVec 32 := 0#32
  let v921 : BitVec 1 := Scalar.cmpi .slt v919 c0_i32_600
  let c0_i32_601 : BitVec 32 := 0#32
  let v922 : BitVec 1 := Scalar.cmpi .slt v918 c0_i32_601
  let v923 : BitVec 1 := Scalar.xori v921 v922
  let c0_i32_599 : BitVec 32 := 0#32
  let v920 : BitVec 1 := Scalar.cmpi .ne v919 c0_i32_599
  let v924 : BitVec 1 := Scalar.andi v923 v920
  let v925 : BitVec 32 := Scalar.addi v919 v918
  let v926 : BitVec 32 := Scalar.select v924 v925 v919
  let c1_i32_603 : BitVec 32 := 1#32
  let v928 : BitVec 32 := Scalar.muli v926 c1_i32_603
  let v929 : BitVec 32 := Scalar.addi c0_i32_604 v928
  v929.toNat
def k0_dev57 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_608 : BitVec 32 := 26#32
  let v937 : BitVec 32 := Scalar.addi v2 c26_i32_608
  let c32_i32_609 : BitVec 32 := 32#32
  let c0_i32_610 : BitVec 32 := 0#32
  let v938 : BitVec 1 := Scalar.cmpi .eq c32_i32_609 c0_i32_610
  let c1_i32_611 : BitVec 32 := 1#32
  let v939 : BitVec 32 := Scalar.select v938 c1_i32_611 c32_i32_609
  let v940 : BitVec 32 := Scalar.remsi v937 v939
  let c0_i32_613 : BitVec 32 := 0#32
  let v942 : BitVec 1 := Scalar.cmpi .slt v940 c0_i32_613
  let c0_i32_614 : BitVec 32 := 0#32
  let v943 : BitVec 1 := Scalar.cmpi .slt v939 c0_i32_614
  let v944 : BitVec 1 := Scalar.xori v942 v943
  let c0_i32_612 : BitVec 32 := 0#32
  let v941 : BitVec 1 := Scalar.cmpi .ne v940 c0_i32_612
  let v945 : BitVec 1 := Scalar.andi v944 v941
  let v946 : BitVec 32 := Scalar.addi v940 v939
  let v947 : BitVec 32 := Scalar.select v945 v946 v940
  let c1_i32_616 : BitVec 32 := 1#32
  let v949 : BitVec 32 := Scalar.muli v947 c1_i32_616
  let v950 : BitVec 32 := Scalar.addi c0_i32_617 v949
  v950.toNat
def k0_dev58 (d0 : Dev nD) : Nat :=
  let c0_i32_630 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_621 : BitVec 32 := 27#32
  let v958 : BitVec 32 := Scalar.addi v2 c27_i32_621
  let c32_i32_622 : BitVec 32 := 32#32
  let c0_i32_623 : BitVec 32 := 0#32
  let v959 : BitVec 1 := Scalar.cmpi .eq c32_i32_622 c0_i32_623
  let c1_i32_624 : BitVec 32 := 1#32
  let v960 : BitVec 32 := Scalar.select v959 c1_i32_624 c32_i32_622
  let v961 : BitVec 32 := Scalar.remsi v958 v960
  let c0_i32_626 : BitVec 32 := 0#32
  let v963 : BitVec 1 := Scalar.cmpi .slt v961 c0_i32_626
  let c0_i32_627 : BitVec 32 := 0#32
  let v964 : BitVec 1 := Scalar.cmpi .slt v960 c0_i32_627
  let v965 : BitVec 1 := Scalar.xori v963 v964
  let c0_i32_625 : BitVec 32 := 0#32
  let v962 : BitVec 1 := Scalar.cmpi .ne v961 c0_i32_625
  let v966 : BitVec 1 := Scalar.andi v965 v962
  let v967 : BitVec 32 := Scalar.addi v961 v960
  let v968 : BitVec 32 := Scalar.select v966 v967 v961
  let c1_i32_629 : BitVec 32 := 1#32
  let v970 : BitVec 32 := Scalar.muli v968 c1_i32_629
  let v971 : BitVec 32 := Scalar.addi c0_i32_630 v970
  v971.toNat
def k0_dev59 (d0 : Dev nD) : Nat :=
  let c0_i32_643 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_634 : BitVec 32 := 28#32
  let v979 : BitVec 32 := Scalar.addi v2 c28_i32_634
  let c32_i32_635 : BitVec 32 := 32#32
  let c0_i32_636 : BitVec 32 := 0#32
  let v980 : BitVec 1 := Scalar.cmpi .eq c32_i32_635 c0_i32_636
  let c1_i32_637 : BitVec 32 := 1#32
  let v981 : BitVec 32 := Scalar.select v980 c1_i32_637 c32_i32_635
  let v982 : BitVec 32 := Scalar.remsi v979 v981
  let c0_i32_639 : BitVec 32 := 0#32
  let v984 : BitVec 1 := Scalar.cmpi .slt v982 c0_i32_639
  let c0_i32_640 : BitVec 32 := 0#32
  let v985 : BitVec 1 := Scalar.cmpi .slt v981 c0_i32_640
  let v986 : BitVec 1 := Scalar.xori v984 v985
  let c0_i32_638 : BitVec 32 := 0#32
  let v983 : BitVec 1 := Scalar.cmpi .ne v982 c0_i32_638
  let v987 : BitVec 1 := Scalar.andi v986 v983
  let v988 : BitVec 32 := Scalar.addi v982 v981
  let v989 : BitVec 32 := Scalar.select v987 v988 v982
  let c1_i32_642 : BitVec 32 := 1#32
  let v991 : BitVec 32 := Scalar.muli v989 c1_i32_642
  let v992 : BitVec 32 := Scalar.addi c0_i32_643 v991
  v992.toNat
def k0_dev60 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_647 : BitVec 32 := 29#32
  let v1000 : BitVec 32 := Scalar.addi v2 c29_i32_647
  let c32_i32_648 : BitVec 32 := 32#32
  let c0_i32_649 : BitVec 32 := 0#32
  let v1001 : BitVec 1 := Scalar.cmpi .eq c32_i32_648 c0_i32_649
  let c1_i32_650 : BitVec 32 := 1#32
  let v1002 : BitVec 32 := Scalar.select v1001 c1_i32_650 c32_i32_648
  let v1003 : BitVec 32 := Scalar.remsi v1000 v1002
  let c0_i32_652 : BitVec 32 := 0#32
  let v1005 : BitVec 1 := Scalar.cmpi .slt v1003 c0_i32_652
  let c0_i32_653 : BitVec 32 := 0#32
  let v1006 : BitVec 1 := Scalar.cmpi .slt v1002 c0_i32_653
  let v1007 : BitVec 1 := Scalar.xori v1005 v1006
  let c0_i32_651 : BitVec 32 := 0#32
  let v1004 : BitVec 1 := Scalar.cmpi .ne v1003 c0_i32_651
  let v1008 : BitVec 1 := Scalar.andi v1007 v1004
  let v1009 : BitVec 32 := Scalar.addi v1003 v1002
  let v1010 : BitVec 32 := Scalar.select v1008 v1009 v1003
  let c1_i32_655 : BitVec 32 := 1#32
  let v1012 : BitVec 32 := Scalar.muli v1010 c1_i32_655
  let v1013 : BitVec 32 := Scalar.addi c0_i32_656 v1012
  v1013.toNat
def k0_dev61 (d0 : Dev nD) : Nat :=
  let c0_i32_669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_660 : BitVec 32 := 30#32
  let v1021 : BitVec 32 := Scalar.addi v2 c30_i32_660
  let c32_i32_661 : BitVec 32 := 32#32
  let c0_i32_662 : BitVec 32 := 0#32
  let v1022 : BitVec 1 := Scalar.cmpi .eq c32_i32_661 c0_i32_662
  let c1_i32_663 : BitVec 32 := 1#32
  let v1023 : BitVec 32 := Scalar.select v1022 c1_i32_663 c32_i32_661
  let v1024 : BitVec 32 := Scalar.remsi v1021 v1023
  let c0_i32_665 : BitVec 32 := 0#32
  let v1026 : BitVec 1 := Scalar.cmpi .slt v1024 c0_i32_665
  let c0_i32_666 : BitVec 32 := 0#32
  let v1027 : BitVec 1 := Scalar.cmpi .slt v1023 c0_i32_666
  let v1028 : BitVec 1 := Scalar.xori v1026 v1027
  let c0_i32_664 : BitVec 32 := 0#32
  let v1025 : BitVec 1 := Scalar.cmpi .ne v1024 c0_i32_664
  let v1029 : BitVec 1 := Scalar.andi v1028 v1025
  let v1030 : BitVec 32 := Scalar.addi v1024 v1023
  let v1031 : BitVec 32 := Scalar.select v1029 v1030 v1024
  let c1_i32_668 : BitVec 32 := 1#32
  let v1033 : BitVec 32 := Scalar.muli v1031 c1_i32_668
  let v1034 : BitVec 32 := Scalar.addi c0_i32_669 v1033
  v1034.toNat
def k0_dev62 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_673 : BitVec 32 := 31#32
  let v1042 : BitVec 32 := Scalar.addi v2 c31_i32_673
  let c32_i32_674 : BitVec 32 := 32#32
  let c0_i32_675 : BitVec 32 := 0#32
  let v1043 : BitVec 1 := Scalar.cmpi .eq c32_i32_674 c0_i32_675
  let c1_i32_676 : BitVec 32 := 1#32
  let v1044 : BitVec 32 := Scalar.select v1043 c1_i32_676 c32_i32_674
  let v1045 : BitVec 32 := Scalar.remsi v1042 v1044
  let c0_i32_678 : BitVec 32 := 0#32
  let v1047 : BitVec 1 := Scalar.cmpi .slt v1045 c0_i32_678
  let c0_i32_679 : BitVec 32 := 0#32
  let v1048 : BitVec 1 := Scalar.cmpi .slt v1044 c0_i32_679
  let v1049 : BitVec 1 := Scalar.xori v1047 v1048
  let c0_i32_677 : BitVec 32 := 0#32
  let v1046 : BitVec 1 := Scalar.cmpi .ne v1045 c0_i32_677
  let v1050 : BitVec 1 := Scalar.andi v1049 v1046
  let v1051 : BitVec 32 := Scalar.addi v1045 v1044
  let v1052 : BitVec 32 := Scalar.select v1050 v1051 v1045
  let c1_i32_681 : BitVec 32 := 1#32
  let v1054 : BitVec 32 := Scalar.muli v1052 c1_i32_681
  let v1055 : BitVec 32 := Scalar.addi c0_i32_682 v1054
  v1055.toNat
def k0_off5 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_686 : BitVec 32 := 16#32
  let v1063 : BitVec 32 := Scalar.muli v2 c16_i32_686
  let v1064 : Index := Scalar.indexCast v1063
  let c0_687 : Index := 0#32
  ![v1064.toNat, 0]
def k0_off6 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1067 : Index := Scalar.indexCast v2
  let c0_688 : Index := 0#32
  let c0_689 : Index := 0#32
  ![v1067.toNat, 0, 0]
def k0_off7 (d0 : Dev nD) (c1_i32_690 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1071 : BitVec 32 := Scalar.addi v2 c1_i32_690
  let c32_i32_691 : BitVec 32 := 32#32
  let c0_i32_692 : BitVec 32 := 0#32
  let v1072 : BitVec 1 := Scalar.cmpi .eq c32_i32_691 c0_i32_692
  let c1_i32_693 : BitVec 32 := 1#32
  let v1073 : BitVec 32 := Scalar.select v1072 c1_i32_693 c32_i32_691
  let v1074 : BitVec 32 := Scalar.remsi v1071 v1073
  let c0_i32_695 : BitVec 32 := 0#32
  let v1076 : BitVec 1 := Scalar.cmpi .slt v1074 c0_i32_695
  let c0_i32_696 : BitVec 32 := 0#32
  let v1077 : BitVec 1 := Scalar.cmpi .slt v1073 c0_i32_696
  let v1078 : BitVec 1 := Scalar.xori v1076 v1077
  let c0_i32_694 : BitVec 32 := 0#32
  let v1075 : BitVec 1 := Scalar.cmpi .ne v1074 c0_i32_694
  let v1079 : BitVec 1 := Scalar.andi v1078 v1075
  let v1080 : BitVec 32 := Scalar.addi v1074 v1073
  let v1081 : BitVec 32 := Scalar.select v1079 v1080 v1074
  let c0_i32_699 : BitVec 32 := 0#32
  let c0_i32_700 : BitVec 32 := 0#32
  ![v1081.toNat, 0, 0]
def k0_dev63 (d0 : Dev nD) : Nat :=
  let c0_i32_1233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1225 : BitVec 32 := 1#32
  let v1797 : BitVec 32 := Scalar.addi v2 c1_i32_1225
  let c32_i32_1226 : BitVec 32 := 32#32
  let c0_i32_1227 : BitVec 32 := 0#32
  let v1798 : BitVec 1 := Scalar.cmpi .eq c32_i32_1226 c0_i32_1227
  let c1_i32_1228 : BitVec 32 := 1#32
  let v1799 : BitVec 32 := Scalar.select v1798 c1_i32_1228 c32_i32_1226
  let v1800 : BitVec 32 := Scalar.remsi v1797 v1799
  let c0_i32_1230 : BitVec 32 := 0#32
  let v1802 : BitVec 1 := Scalar.cmpi .slt v1800 c0_i32_1230
  let c0_i32_1231 : BitVec 32 := 0#32
  let v1803 : BitVec 1 := Scalar.cmpi .slt v1799 c0_i32_1231
  let v1804 : BitVec 1 := Scalar.xori v1802 v1803
  let c0_i32_1229 : BitVec 32 := 0#32
  let v1801 : BitVec 1 := Scalar.cmpi .ne v1800 c0_i32_1229
  let v1805 : BitVec 1 := Scalar.andi v1804 v1801
  let v1806 : BitVec 32 := Scalar.addi v1800 v1799
  let v1807 : BitVec 32 := Scalar.select v1805 v1806 v1800
  let c1_i32_1232 : BitVec 32 := 1#32
  let v1808 : BitVec 32 := Scalar.muli v1807 c1_i32_1232
  let v1809 : BitVec 32 := Scalar.addi c0_i32_1233 v1808
  v1809.toNat
def k0_dev64 (d0 : Dev nD) : Nat :=
  let c0_i32_1246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1238 : BitVec 32 := 2#32
  let v1818 : BitVec 32 := Scalar.addi v2 c2_i32_1238
  let c32_i32_1239 : BitVec 32 := 32#32
  let c0_i32_1240 : BitVec 32 := 0#32
  let v1819 : BitVec 1 := Scalar.cmpi .eq c32_i32_1239 c0_i32_1240
  let c1_i32_1241 : BitVec 32 := 1#32
  let v1820 : BitVec 32 := Scalar.select v1819 c1_i32_1241 c32_i32_1239
  let v1821 : BitVec 32 := Scalar.remsi v1818 v1820
  let c0_i32_1243 : BitVec 32 := 0#32
  let v1823 : BitVec 1 := Scalar.cmpi .slt v1821 c0_i32_1243
  let c0_i32_1244 : BitVec 32 := 0#32
  let v1824 : BitVec 1 := Scalar.cmpi .slt v1820 c0_i32_1244
  let v1825 : BitVec 1 := Scalar.xori v1823 v1824
  let c0_i32_1242 : BitVec 32 := 0#32
  let v1822 : BitVec 1 := Scalar.cmpi .ne v1821 c0_i32_1242
  let v1826 : BitVec 1 := Scalar.andi v1825 v1822
  let v1827 : BitVec 32 := Scalar.addi v1821 v1820
  let v1828 : BitVec 32 := Scalar.select v1826 v1827 v1821
  let c1_i32_1245 : BitVec 32 := 1#32
  let v1829 : BitVec 32 := Scalar.muli v1828 c1_i32_1245
  let v1830 : BitVec 32 := Scalar.addi c0_i32_1246 v1829
  v1830.toNat
def k0_dev65 (d0 : Dev nD) : Nat :=
  let c0_i32_1259 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1251 : BitVec 32 := 3#32
  let v1839 : BitVec 32 := Scalar.addi v2 c3_i32_1251
  let c32_i32_1252 : BitVec 32 := 32#32
  let c0_i32_1253 : BitVec 32 := 0#32
  let v1840 : BitVec 1 := Scalar.cmpi .eq c32_i32_1252 c0_i32_1253
  let c1_i32_1254 : BitVec 32 := 1#32
  let v1841 : BitVec 32 := Scalar.select v1840 c1_i32_1254 c32_i32_1252
  let v1842 : BitVec 32 := Scalar.remsi v1839 v1841
  let c0_i32_1256 : BitVec 32 := 0#32
  let v1844 : BitVec 1 := Scalar.cmpi .slt v1842 c0_i32_1256
  let c0_i32_1257 : BitVec 32 := 0#32
  let v1845 : BitVec 1 := Scalar.cmpi .slt v1841 c0_i32_1257
  let v1846 : BitVec 1 := Scalar.xori v1844 v1845
  let c0_i32_1255 : BitVec 32 := 0#32
  let v1843 : BitVec 1 := Scalar.cmpi .ne v1842 c0_i32_1255
  let v1847 : BitVec 1 := Scalar.andi v1846 v1843
  let v1848 : BitVec 32 := Scalar.addi v1842 v1841
  let v1849 : BitVec 32 := Scalar.select v1847 v1848 v1842
  let c1_i32_1258 : BitVec 32 := 1#32
  let v1850 : BitVec 32 := Scalar.muli v1849 c1_i32_1258
  let v1851 : BitVec 32 := Scalar.addi c0_i32_1259 v1850
  v1851.toNat
def k0_dev66 (d0 : Dev nD) : Nat :=
  let c0_i32_1272 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1264 : BitVec 32 := 4#32
  let v1860 : BitVec 32 := Scalar.addi v2 c4_i32_1264
  let c32_i32_1265 : BitVec 32 := 32#32
  let c0_i32_1266 : BitVec 32 := 0#32
  let v1861 : BitVec 1 := Scalar.cmpi .eq c32_i32_1265 c0_i32_1266
  let c1_i32_1267 : BitVec 32 := 1#32
  let v1862 : BitVec 32 := Scalar.select v1861 c1_i32_1267 c32_i32_1265
  let v1863 : BitVec 32 := Scalar.remsi v1860 v1862
  let c0_i32_1269 : BitVec 32 := 0#32
  let v1865 : BitVec 1 := Scalar.cmpi .slt v1863 c0_i32_1269
  let c0_i32_1270 : BitVec 32 := 0#32
  let v1866 : BitVec 1 := Scalar.cmpi .slt v1862 c0_i32_1270
  let v1867 : BitVec 1 := Scalar.xori v1865 v1866
  let c0_i32_1268 : BitVec 32 := 0#32
  let v1864 : BitVec 1 := Scalar.cmpi .ne v1863 c0_i32_1268
  let v1868 : BitVec 1 := Scalar.andi v1867 v1864
  let v1869 : BitVec 32 := Scalar.addi v1863 v1862
  let v1870 : BitVec 32 := Scalar.select v1868 v1869 v1863
  let c1_i32_1271 : BitVec 32 := 1#32
  let v1871 : BitVec 32 := Scalar.muli v1870 c1_i32_1271
  let v1872 : BitVec 32 := Scalar.addi c0_i32_1272 v1871
  v1872.toNat
def k0_dev67 (d0 : Dev nD) : Nat :=
  let c0_i32_1285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1277 : BitVec 32 := 5#32
  let v1881 : BitVec 32 := Scalar.addi v2 c5_i32_1277
  let c32_i32_1278 : BitVec 32 := 32#32
  let c0_i32_1279 : BitVec 32 := 0#32
  let v1882 : BitVec 1 := Scalar.cmpi .eq c32_i32_1278 c0_i32_1279
  let c1_i32_1280 : BitVec 32 := 1#32
  let v1883 : BitVec 32 := Scalar.select v1882 c1_i32_1280 c32_i32_1278
  let v1884 : BitVec 32 := Scalar.remsi v1881 v1883
  let c0_i32_1282 : BitVec 32 := 0#32
  let v1886 : BitVec 1 := Scalar.cmpi .slt v1884 c0_i32_1282
  let c0_i32_1283 : BitVec 32 := 0#32
  let v1887 : BitVec 1 := Scalar.cmpi .slt v1883 c0_i32_1283
  let v1888 : BitVec 1 := Scalar.xori v1886 v1887
  let c0_i32_1281 : BitVec 32 := 0#32
  let v1885 : BitVec 1 := Scalar.cmpi .ne v1884 c0_i32_1281
  let v1889 : BitVec 1 := Scalar.andi v1888 v1885
  let v1890 : BitVec 32 := Scalar.addi v1884 v1883
  let v1891 : BitVec 32 := Scalar.select v1889 v1890 v1884
  let c1_i32_1284 : BitVec 32 := 1#32
  let v1892 : BitVec 32 := Scalar.muli v1891 c1_i32_1284
  let v1893 : BitVec 32 := Scalar.addi c0_i32_1285 v1892
  v1893.toNat
def k0_dev68 (d0 : Dev nD) : Nat :=
  let c0_i32_1298 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1290 : BitVec 32 := 6#32
  let v1902 : BitVec 32 := Scalar.addi v2 c6_i32_1290
  let c32_i32_1291 : BitVec 32 := 32#32
  let c0_i32_1292 : BitVec 32 := 0#32
  let v1903 : BitVec 1 := Scalar.cmpi .eq c32_i32_1291 c0_i32_1292
  let c1_i32_1293 : BitVec 32 := 1#32
  let v1904 : BitVec 32 := Scalar.select v1903 c1_i32_1293 c32_i32_1291
  let v1905 : BitVec 32 := Scalar.remsi v1902 v1904
  let c0_i32_1295 : BitVec 32 := 0#32
  let v1907 : BitVec 1 := Scalar.cmpi .slt v1905 c0_i32_1295
  let c0_i32_1296 : BitVec 32 := 0#32
  let v1908 : BitVec 1 := Scalar.cmpi .slt v1904 c0_i32_1296
  let v1909 : BitVec 1 := Scalar.xori v1907 v1908
  let c0_i32_1294 : BitVec 32 := 0#32
  let v1906 : BitVec 1 := Scalar.cmpi .ne v1905 c0_i32_1294
  let v1910 : BitVec 1 := Scalar.andi v1909 v1906
  let v1911 : BitVec 32 := Scalar.addi v1905 v1904
  let v1912 : BitVec 32 := Scalar.select v1910 v1911 v1905
  let c1_i32_1297 : BitVec 32 := 1#32
  let v1913 : BitVec 32 := Scalar.muli v1912 c1_i32_1297
  let v1914 : BitVec 32 := Scalar.addi c0_i32_1298 v1913
  v1914.toNat
def k0_dev69 (d0 : Dev nD) : Nat :=
  let c0_i32_1311 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1303 : BitVec 32 := 7#32
  let v1923 : BitVec 32 := Scalar.addi v2 c7_i32_1303
  let c32_i32_1304 : BitVec 32 := 32#32
  let c0_i32_1305 : BitVec 32 := 0#32
  let v1924 : BitVec 1 := Scalar.cmpi .eq c32_i32_1304 c0_i32_1305
  let c1_i32_1306 : BitVec 32 := 1#32
  let v1925 : BitVec 32 := Scalar.select v1924 c1_i32_1306 c32_i32_1304
  let v1926 : BitVec 32 := Scalar.remsi v1923 v1925
  let c0_i32_1308 : BitVec 32 := 0#32
  let v1928 : BitVec 1 := Scalar.cmpi .slt v1926 c0_i32_1308
  let c0_i32_1309 : BitVec 32 := 0#32
  let v1929 : BitVec 1 := Scalar.cmpi .slt v1925 c0_i32_1309
  let v1930 : BitVec 1 := Scalar.xori v1928 v1929
  let c0_i32_1307 : BitVec 32 := 0#32
  let v1927 : BitVec 1 := Scalar.cmpi .ne v1926 c0_i32_1307
  let v1931 : BitVec 1 := Scalar.andi v1930 v1927
  let v1932 : BitVec 32 := Scalar.addi v1926 v1925
  let v1933 : BitVec 32 := Scalar.select v1931 v1932 v1926
  let c1_i32_1310 : BitVec 32 := 1#32
  let v1934 : BitVec 32 := Scalar.muli v1933 c1_i32_1310
  let v1935 : BitVec 32 := Scalar.addi c0_i32_1311 v1934
  v1935.toNat
def k0_dev70 (d0 : Dev nD) : Nat :=
  let c0_i32_1324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1316 : BitVec 32 := 8#32
  let v1944 : BitVec 32 := Scalar.addi v2 c8_i32_1316
  let c32_i32_1317 : BitVec 32 := 32#32
  let c0_i32_1318 : BitVec 32 := 0#32
  let v1945 : BitVec 1 := Scalar.cmpi .eq c32_i32_1317 c0_i32_1318
  let c1_i32_1319 : BitVec 32 := 1#32
  let v1946 : BitVec 32 := Scalar.select v1945 c1_i32_1319 c32_i32_1317
  let v1947 : BitVec 32 := Scalar.remsi v1944 v1946
  let c0_i32_1321 : BitVec 32 := 0#32
  let v1949 : BitVec 1 := Scalar.cmpi .slt v1947 c0_i32_1321
  let c0_i32_1322 : BitVec 32 := 0#32
  let v1950 : BitVec 1 := Scalar.cmpi .slt v1946 c0_i32_1322
  let v1951 : BitVec 1 := Scalar.xori v1949 v1950
  let c0_i32_1320 : BitVec 32 := 0#32
  let v1948 : BitVec 1 := Scalar.cmpi .ne v1947 c0_i32_1320
  let v1952 : BitVec 1 := Scalar.andi v1951 v1948
  let v1953 : BitVec 32 := Scalar.addi v1947 v1946
  let v1954 : BitVec 32 := Scalar.select v1952 v1953 v1947
  let c1_i32_1323 : BitVec 32 := 1#32
  let v1955 : BitVec 32 := Scalar.muli v1954 c1_i32_1323
  let v1956 : BitVec 32 := Scalar.addi c0_i32_1324 v1955
  v1956.toNat
def k0_dev71 (d0 : Dev nD) : Nat :=
  let c0_i32_1337 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1329 : BitVec 32 := 9#32
  let v1965 : BitVec 32 := Scalar.addi v2 c9_i32_1329
  let c32_i32_1330 : BitVec 32 := 32#32
  let c0_i32_1331 : BitVec 32 := 0#32
  let v1966 : BitVec 1 := Scalar.cmpi .eq c32_i32_1330 c0_i32_1331
  let c1_i32_1332 : BitVec 32 := 1#32
  let v1967 : BitVec 32 := Scalar.select v1966 c1_i32_1332 c32_i32_1330
  let v1968 : BitVec 32 := Scalar.remsi v1965 v1967
  let c0_i32_1334 : BitVec 32 := 0#32
  let v1970 : BitVec 1 := Scalar.cmpi .slt v1968 c0_i32_1334
  let c0_i32_1335 : BitVec 32 := 0#32
  let v1971 : BitVec 1 := Scalar.cmpi .slt v1967 c0_i32_1335
  let v1972 : BitVec 1 := Scalar.xori v1970 v1971
  let c0_i32_1333 : BitVec 32 := 0#32
  let v1969 : BitVec 1 := Scalar.cmpi .ne v1968 c0_i32_1333
  let v1973 : BitVec 1 := Scalar.andi v1972 v1969
  let v1974 : BitVec 32 := Scalar.addi v1968 v1967
  let v1975 : BitVec 32 := Scalar.select v1973 v1974 v1968
  let c1_i32_1336 : BitVec 32 := 1#32
  let v1976 : BitVec 32 := Scalar.muli v1975 c1_i32_1336
  let v1977 : BitVec 32 := Scalar.addi c0_i32_1337 v1976
  v1977.toNat
def k0_dev72 (d0 : Dev nD) : Nat :=
  let c0_i32_1350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1342 : BitVec 32 := 10#32
  let v1986 : BitVec 32 := Scalar.addi v2 c10_i32_1342
  let c32_i32_1343 : BitVec 32 := 32#32
  let c0_i32_1344 : BitVec 32 := 0#32
  let v1987 : BitVec 1 := Scalar.cmpi .eq c32_i32_1343 c0_i32_1344
  let c1_i32_1345 : BitVec 32 := 1#32
  let v1988 : BitVec 32 := Scalar.select v1987 c1_i32_1345 c32_i32_1343
  let v1989 : BitVec 32 := Scalar.remsi v1986 v1988
  let c0_i32_1347 : BitVec 32 := 0#32
  let v1991 : BitVec 1 := Scalar.cmpi .slt v1989 c0_i32_1347
  let c0_i32_1348 : BitVec 32 := 0#32
  let v1992 : BitVec 1 := Scalar.cmpi .slt v1988 c0_i32_1348
  let v1993 : BitVec 1 := Scalar.xori v1991 v1992
  let c0_i32_1346 : BitVec 32 := 0#32
  let v1990 : BitVec 1 := Scalar.cmpi .ne v1989 c0_i32_1346
  let v1994 : BitVec 1 := Scalar.andi v1993 v1990
  let v1995 : BitVec 32 := Scalar.addi v1989 v1988
  let v1996 : BitVec 32 := Scalar.select v1994 v1995 v1989
  let c1_i32_1349 : BitVec 32 := 1#32
  let v1997 : BitVec 32 := Scalar.muli v1996 c1_i32_1349
  let v1998 : BitVec 32 := Scalar.addi c0_i32_1350 v1997
  v1998.toNat
def k0_dev73 (d0 : Dev nD) : Nat :=
  let c0_i32_1363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1355 : BitVec 32 := 11#32
  let v2007 : BitVec 32 := Scalar.addi v2 c11_i32_1355
  let c32_i32_1356 : BitVec 32 := 32#32
  let c0_i32_1357 : BitVec 32 := 0#32
  let v2008 : BitVec 1 := Scalar.cmpi .eq c32_i32_1356 c0_i32_1357
  let c1_i32_1358 : BitVec 32 := 1#32
  let v2009 : BitVec 32 := Scalar.select v2008 c1_i32_1358 c32_i32_1356
  let v2010 : BitVec 32 := Scalar.remsi v2007 v2009
  let c0_i32_1360 : BitVec 32 := 0#32
  let v2012 : BitVec 1 := Scalar.cmpi .slt v2010 c0_i32_1360
  let c0_i32_1361 : BitVec 32 := 0#32
  let v2013 : BitVec 1 := Scalar.cmpi .slt v2009 c0_i32_1361
  let v2014 : BitVec 1 := Scalar.xori v2012 v2013
  let c0_i32_1359 : BitVec 32 := 0#32
  let v2011 : BitVec 1 := Scalar.cmpi .ne v2010 c0_i32_1359
  let v2015 : BitVec 1 := Scalar.andi v2014 v2011
  let v2016 : BitVec 32 := Scalar.addi v2010 v2009
  let v2017 : BitVec 32 := Scalar.select v2015 v2016 v2010
  let c1_i32_1362 : BitVec 32 := 1#32
  let v2018 : BitVec 32 := Scalar.muli v2017 c1_i32_1362
  let v2019 : BitVec 32 := Scalar.addi c0_i32_1363 v2018
  v2019.toNat
def k0_dev74 (d0 : Dev nD) : Nat :=
  let c0_i32_1376 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1368 : BitVec 32 := 12#32
  let v2028 : BitVec 32 := Scalar.addi v2 c12_i32_1368
  let c32_i32_1369 : BitVec 32 := 32#32
  let c0_i32_1370 : BitVec 32 := 0#32
  let v2029 : BitVec 1 := Scalar.cmpi .eq c32_i32_1369 c0_i32_1370
  let c1_i32_1371 : BitVec 32 := 1#32
  let v2030 : BitVec 32 := Scalar.select v2029 c1_i32_1371 c32_i32_1369
  let v2031 : BitVec 32 := Scalar.remsi v2028 v2030
  let c0_i32_1373 : BitVec 32 := 0#32
  let v2033 : BitVec 1 := Scalar.cmpi .slt v2031 c0_i32_1373
  let c0_i32_1374 : BitVec 32 := 0#32
  let v2034 : BitVec 1 := Scalar.cmpi .slt v2030 c0_i32_1374
  let v2035 : BitVec 1 := Scalar.xori v2033 v2034
  let c0_i32_1372 : BitVec 32 := 0#32
  let v2032 : BitVec 1 := Scalar.cmpi .ne v2031 c0_i32_1372
  let v2036 : BitVec 1 := Scalar.andi v2035 v2032
  let v2037 : BitVec 32 := Scalar.addi v2031 v2030
  let v2038 : BitVec 32 := Scalar.select v2036 v2037 v2031
  let c1_i32_1375 : BitVec 32 := 1#32
  let v2039 : BitVec 32 := Scalar.muli v2038 c1_i32_1375
  let v2040 : BitVec 32 := Scalar.addi c0_i32_1376 v2039
  v2040.toNat
def k0_dev75 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1381 : BitVec 32 := 13#32
  let v2049 : BitVec 32 := Scalar.addi v2 c13_i32_1381
  let c32_i32_1382 : BitVec 32 := 32#32
  let c0_i32_1383 : BitVec 32 := 0#32
  let v2050 : BitVec 1 := Scalar.cmpi .eq c32_i32_1382 c0_i32_1383
  let c1_i32_1384 : BitVec 32 := 1#32
  let v2051 : BitVec 32 := Scalar.select v2050 c1_i32_1384 c32_i32_1382
  let v2052 : BitVec 32 := Scalar.remsi v2049 v2051
  let c0_i32_1386 : BitVec 32 := 0#32
  let v2054 : BitVec 1 := Scalar.cmpi .slt v2052 c0_i32_1386
  let c0_i32_1387 : BitVec 32 := 0#32
  let v2055 : BitVec 1 := Scalar.cmpi .slt v2051 c0_i32_1387
  let v2056 : BitVec 1 := Scalar.xori v2054 v2055
  let c0_i32_1385 : BitVec 32 := 0#32
  let v2053 : BitVec 1 := Scalar.cmpi .ne v2052 c0_i32_1385
  let v2057 : BitVec 1 := Scalar.andi v2056 v2053
  let v2058 : BitVec 32 := Scalar.addi v2052 v2051
  let v2059 : BitVec 32 := Scalar.select v2057 v2058 v2052
  let c1_i32_1388 : BitVec 32 := 1#32
  let v2060 : BitVec 32 := Scalar.muli v2059 c1_i32_1388
  let v2061 : BitVec 32 := Scalar.addi c0_i32_1389 v2060
  v2061.toNat
def k0_dev76 (d0 : Dev nD) : Nat :=
  let c0_i32_1402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1394 : BitVec 32 := 14#32
  let v2070 : BitVec 32 := Scalar.addi v2 c14_i32_1394
  let c32_i32_1395 : BitVec 32 := 32#32
  let c0_i32_1396 : BitVec 32 := 0#32
  let v2071 : BitVec 1 := Scalar.cmpi .eq c32_i32_1395 c0_i32_1396
  let c1_i32_1397 : BitVec 32 := 1#32
  let v2072 : BitVec 32 := Scalar.select v2071 c1_i32_1397 c32_i32_1395
  let v2073 : BitVec 32 := Scalar.remsi v2070 v2072
  let c0_i32_1399 : BitVec 32 := 0#32
  let v2075 : BitVec 1 := Scalar.cmpi .slt v2073 c0_i32_1399
  let c0_i32_1400 : BitVec 32 := 0#32
  let v2076 : BitVec 1 := Scalar.cmpi .slt v2072 c0_i32_1400
  let v2077 : BitVec 1 := Scalar.xori v2075 v2076
  let c0_i32_1398 : BitVec 32 := 0#32
  let v2074 : BitVec 1 := Scalar.cmpi .ne v2073 c0_i32_1398
  let v2078 : BitVec 1 := Scalar.andi v2077 v2074
  let v2079 : BitVec 32 := Scalar.addi v2073 v2072
  let v2080 : BitVec 32 := Scalar.select v2078 v2079 v2073
  let c1_i32_1401 : BitVec 32 := 1#32
  let v2081 : BitVec 32 := Scalar.muli v2080 c1_i32_1401
  let v2082 : BitVec 32 := Scalar.addi c0_i32_1402 v2081
  v2082.toNat
def k0_dev77 (d0 : Dev nD) : Nat :=
  let c0_i32_1415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1407 : BitVec 32 := 15#32
  let v2091 : BitVec 32 := Scalar.addi v2 c15_i32_1407
  let c32_i32_1408 : BitVec 32 := 32#32
  let c0_i32_1409 : BitVec 32 := 0#32
  let v2092 : BitVec 1 := Scalar.cmpi .eq c32_i32_1408 c0_i32_1409
  let c1_i32_1410 : BitVec 32 := 1#32
  let v2093 : BitVec 32 := Scalar.select v2092 c1_i32_1410 c32_i32_1408
  let v2094 : BitVec 32 := Scalar.remsi v2091 v2093
  let c0_i32_1412 : BitVec 32 := 0#32
  let v2096 : BitVec 1 := Scalar.cmpi .slt v2094 c0_i32_1412
  let c0_i32_1413 : BitVec 32 := 0#32
  let v2097 : BitVec 1 := Scalar.cmpi .slt v2093 c0_i32_1413
  let v2098 : BitVec 1 := Scalar.xori v2096 v2097
  let c0_i32_1411 : BitVec 32 := 0#32
  let v2095 : BitVec 1 := Scalar.cmpi .ne v2094 c0_i32_1411
  let v2099 : BitVec 1 := Scalar.andi v2098 v2095
  let v2100 : BitVec 32 := Scalar.addi v2094 v2093
  let v2101 : BitVec 32 := Scalar.select v2099 v2100 v2094
  let c1_i32_1414 : BitVec 32 := 1#32
  let v2102 : BitVec 32 := Scalar.muli v2101 c1_i32_1414
  let v2103 : BitVec 32 := Scalar.addi c0_i32_1415 v2102
  v2103.toNat
def k0_dev78 (d0 : Dev nD) : Nat :=
  let c0_i32_1428 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1420 : BitVec 32 := 16#32
  let v2112 : BitVec 32 := Scalar.addi v2 c16_i32_1420
  let c32_i32_1421 : BitVec 32 := 32#32
  let c0_i32_1422 : BitVec 32 := 0#32
  let v2113 : BitVec 1 := Scalar.cmpi .eq c32_i32_1421 c0_i32_1422
  let c1_i32_1423 : BitVec 32 := 1#32
  let v2114 : BitVec 32 := Scalar.select v2113 c1_i32_1423 c32_i32_1421
  let v2115 : BitVec 32 := Scalar.remsi v2112 v2114
  let c0_i32_1425 : BitVec 32 := 0#32
  let v2117 : BitVec 1 := Scalar.cmpi .slt v2115 c0_i32_1425
  let c0_i32_1426 : BitVec 32 := 0#32
  let v2118 : BitVec 1 := Scalar.cmpi .slt v2114 c0_i32_1426
  let v2119 : BitVec 1 := Scalar.xori v2117 v2118
  let c0_i32_1424 : BitVec 32 := 0#32
  let v2116 : BitVec 1 := Scalar.cmpi .ne v2115 c0_i32_1424
  let v2120 : BitVec 1 := Scalar.andi v2119 v2116
  let v2121 : BitVec 32 := Scalar.addi v2115 v2114
  let v2122 : BitVec 32 := Scalar.select v2120 v2121 v2115
  let c1_i32_1427 : BitVec 32 := 1#32
  let v2123 : BitVec 32 := Scalar.muli v2122 c1_i32_1427
  let v2124 : BitVec 32 := Scalar.addi c0_i32_1428 v2123
  v2124.toNat
def k0_dev79 (d0 : Dev nD) : Nat :=
  let c0_i32_1441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1433 : BitVec 32 := 17#32
  let v2133 : BitVec 32 := Scalar.addi v2 c17_i32_1433
  let c32_i32_1434 : BitVec 32 := 32#32
  let c0_i32_1435 : BitVec 32 := 0#32
  let v2134 : BitVec 1 := Scalar.cmpi .eq c32_i32_1434 c0_i32_1435
  let c1_i32_1436 : BitVec 32 := 1#32
  let v2135 : BitVec 32 := Scalar.select v2134 c1_i32_1436 c32_i32_1434
  let v2136 : BitVec 32 := Scalar.remsi v2133 v2135
  let c0_i32_1438 : BitVec 32 := 0#32
  let v2138 : BitVec 1 := Scalar.cmpi .slt v2136 c0_i32_1438
  let c0_i32_1439 : BitVec 32 := 0#32
  let v2139 : BitVec 1 := Scalar.cmpi .slt v2135 c0_i32_1439
  let v2140 : BitVec 1 := Scalar.xori v2138 v2139
  let c0_i32_1437 : BitVec 32 := 0#32
  let v2137 : BitVec 1 := Scalar.cmpi .ne v2136 c0_i32_1437
  let v2141 : BitVec 1 := Scalar.andi v2140 v2137
  let v2142 : BitVec 32 := Scalar.addi v2136 v2135
  let v2143 : BitVec 32 := Scalar.select v2141 v2142 v2136
  let c1_i32_1440 : BitVec 32 := 1#32
  let v2144 : BitVec 32 := Scalar.muli v2143 c1_i32_1440
  let v2145 : BitVec 32 := Scalar.addi c0_i32_1441 v2144
  v2145.toNat
def k0_dev80 (d0 : Dev nD) : Nat :=
  let c0_i32_1454 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1446 : BitVec 32 := 18#32
  let v2154 : BitVec 32 := Scalar.addi v2 c18_i32_1446
  let c32_i32_1447 : BitVec 32 := 32#32
  let c0_i32_1448 : BitVec 32 := 0#32
  let v2155 : BitVec 1 := Scalar.cmpi .eq c32_i32_1447 c0_i32_1448
  let c1_i32_1449 : BitVec 32 := 1#32
  let v2156 : BitVec 32 := Scalar.select v2155 c1_i32_1449 c32_i32_1447
  let v2157 : BitVec 32 := Scalar.remsi v2154 v2156
  let c0_i32_1451 : BitVec 32 := 0#32
  let v2159 : BitVec 1 := Scalar.cmpi .slt v2157 c0_i32_1451
  let c0_i32_1452 : BitVec 32 := 0#32
  let v2160 : BitVec 1 := Scalar.cmpi .slt v2156 c0_i32_1452
  let v2161 : BitVec 1 := Scalar.xori v2159 v2160
  let c0_i32_1450 : BitVec 32 := 0#32
  let v2158 : BitVec 1 := Scalar.cmpi .ne v2157 c0_i32_1450
  let v2162 : BitVec 1 := Scalar.andi v2161 v2158
  let v2163 : BitVec 32 := Scalar.addi v2157 v2156
  let v2164 : BitVec 32 := Scalar.select v2162 v2163 v2157
  let c1_i32_1453 : BitVec 32 := 1#32
  let v2165 : BitVec 32 := Scalar.muli v2164 c1_i32_1453
  let v2166 : BitVec 32 := Scalar.addi c0_i32_1454 v2165
  v2166.toNat
def k0_dev81 (d0 : Dev nD) : Nat :=
  let c0_i32_1467 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1459 : BitVec 32 := 19#32
  let v2175 : BitVec 32 := Scalar.addi v2 c19_i32_1459
  let c32_i32_1460 : BitVec 32 := 32#32
  let c0_i32_1461 : BitVec 32 := 0#32
  let v2176 : BitVec 1 := Scalar.cmpi .eq c32_i32_1460 c0_i32_1461
  let c1_i32_1462 : BitVec 32 := 1#32
  let v2177 : BitVec 32 := Scalar.select v2176 c1_i32_1462 c32_i32_1460
  let v2178 : BitVec 32 := Scalar.remsi v2175 v2177
  let c0_i32_1464 : BitVec 32 := 0#32
  let v2180 : BitVec 1 := Scalar.cmpi .slt v2178 c0_i32_1464
  let c0_i32_1465 : BitVec 32 := 0#32
  let v2181 : BitVec 1 := Scalar.cmpi .slt v2177 c0_i32_1465
  let v2182 : BitVec 1 := Scalar.xori v2180 v2181
  let c0_i32_1463 : BitVec 32 := 0#32
  let v2179 : BitVec 1 := Scalar.cmpi .ne v2178 c0_i32_1463
  let v2183 : BitVec 1 := Scalar.andi v2182 v2179
  let v2184 : BitVec 32 := Scalar.addi v2178 v2177
  let v2185 : BitVec 32 := Scalar.select v2183 v2184 v2178
  let c1_i32_1466 : BitVec 32 := 1#32
  let v2186 : BitVec 32 := Scalar.muli v2185 c1_i32_1466
  let v2187 : BitVec 32 := Scalar.addi c0_i32_1467 v2186
  v2187.toNat
def k0_dev82 (d0 : Dev nD) : Nat :=
  let c0_i32_1480 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1472 : BitVec 32 := 20#32
  let v2196 : BitVec 32 := Scalar.addi v2 c20_i32_1472
  let c32_i32_1473 : BitVec 32 := 32#32
  let c0_i32_1474 : BitVec 32 := 0#32
  let v2197 : BitVec 1 := Scalar.cmpi .eq c32_i32_1473 c0_i32_1474
  let c1_i32_1475 : BitVec 32 := 1#32
  let v2198 : BitVec 32 := Scalar.select v2197 c1_i32_1475 c32_i32_1473
  let v2199 : BitVec 32 := Scalar.remsi v2196 v2198
  let c0_i32_1477 : BitVec 32 := 0#32
  let v2201 : BitVec 1 := Scalar.cmpi .slt v2199 c0_i32_1477
  let c0_i32_1478 : BitVec 32 := 0#32
  let v2202 : BitVec 1 := Scalar.cmpi .slt v2198 c0_i32_1478
  let v2203 : BitVec 1 := Scalar.xori v2201 v2202
  let c0_i32_1476 : BitVec 32 := 0#32
  let v2200 : BitVec 1 := Scalar.cmpi .ne v2199 c0_i32_1476
  let v2204 : BitVec 1 := Scalar.andi v2203 v2200
  let v2205 : BitVec 32 := Scalar.addi v2199 v2198
  let v2206 : BitVec 32 := Scalar.select v2204 v2205 v2199
  let c1_i32_1479 : BitVec 32 := 1#32
  let v2207 : BitVec 32 := Scalar.muli v2206 c1_i32_1479
  let v2208 : BitVec 32 := Scalar.addi c0_i32_1480 v2207
  v2208.toNat
def k0_dev83 (d0 : Dev nD) : Nat :=
  let c0_i32_1493 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1485 : BitVec 32 := 21#32
  let v2217 : BitVec 32 := Scalar.addi v2 c21_i32_1485
  let c32_i32_1486 : BitVec 32 := 32#32
  let c0_i32_1487 : BitVec 32 := 0#32
  let v2218 : BitVec 1 := Scalar.cmpi .eq c32_i32_1486 c0_i32_1487
  let c1_i32_1488 : BitVec 32 := 1#32
  let v2219 : BitVec 32 := Scalar.select v2218 c1_i32_1488 c32_i32_1486
  let v2220 : BitVec 32 := Scalar.remsi v2217 v2219
  let c0_i32_1490 : BitVec 32 := 0#32
  let v2222 : BitVec 1 := Scalar.cmpi .slt v2220 c0_i32_1490
  let c0_i32_1491 : BitVec 32 := 0#32
  let v2223 : BitVec 1 := Scalar.cmpi .slt v2219 c0_i32_1491
  let v2224 : BitVec 1 := Scalar.xori v2222 v2223
  let c0_i32_1489 : BitVec 32 := 0#32
  let v2221 : BitVec 1 := Scalar.cmpi .ne v2220 c0_i32_1489
  let v2225 : BitVec 1 := Scalar.andi v2224 v2221
  let v2226 : BitVec 32 := Scalar.addi v2220 v2219
  let v2227 : BitVec 32 := Scalar.select v2225 v2226 v2220
  let c1_i32_1492 : BitVec 32 := 1#32
  let v2228 : BitVec 32 := Scalar.muli v2227 c1_i32_1492
  let v2229 : BitVec 32 := Scalar.addi c0_i32_1493 v2228
  v2229.toNat
def k0_dev84 (d0 : Dev nD) : Nat :=
  let c0_i32_1506 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1498 : BitVec 32 := 22#32
  let v2238 : BitVec 32 := Scalar.addi v2 c22_i32_1498
  let c32_i32_1499 : BitVec 32 := 32#32
  let c0_i32_1500 : BitVec 32 := 0#32
  let v2239 : BitVec 1 := Scalar.cmpi .eq c32_i32_1499 c0_i32_1500
  let c1_i32_1501 : BitVec 32 := 1#32
  let v2240 : BitVec 32 := Scalar.select v2239 c1_i32_1501 c32_i32_1499
  let v2241 : BitVec 32 := Scalar.remsi v2238 v2240
  let c0_i32_1503 : BitVec 32 := 0#32
  let v2243 : BitVec 1 := Scalar.cmpi .slt v2241 c0_i32_1503
  let c0_i32_1504 : BitVec 32 := 0#32
  let v2244 : BitVec 1 := Scalar.cmpi .slt v2240 c0_i32_1504
  let v2245 : BitVec 1 := Scalar.xori v2243 v2244
  let c0_i32_1502 : BitVec 32 := 0#32
  let v2242 : BitVec 1 := Scalar.cmpi .ne v2241 c0_i32_1502
  let v2246 : BitVec 1 := Scalar.andi v2245 v2242
  let v2247 : BitVec 32 := Scalar.addi v2241 v2240
  let v2248 : BitVec 32 := Scalar.select v2246 v2247 v2241
  let c1_i32_1505 : BitVec 32 := 1#32
  let v2249 : BitVec 32 := Scalar.muli v2248 c1_i32_1505
  let v2250 : BitVec 32 := Scalar.addi c0_i32_1506 v2249
  v2250.toNat
def k0_dev85 (d0 : Dev nD) : Nat :=
  let c0_i32_1519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1511 : BitVec 32 := 23#32
  let v2259 : BitVec 32 := Scalar.addi v2 c23_i32_1511
  let c32_i32_1512 : BitVec 32 := 32#32
  let c0_i32_1513 : BitVec 32 := 0#32
  let v2260 : BitVec 1 := Scalar.cmpi .eq c32_i32_1512 c0_i32_1513
  let c1_i32_1514 : BitVec 32 := 1#32
  let v2261 : BitVec 32 := Scalar.select v2260 c1_i32_1514 c32_i32_1512
  let v2262 : BitVec 32 := Scalar.remsi v2259 v2261
  let c0_i32_1516 : BitVec 32 := 0#32
  let v2264 : BitVec 1 := Scalar.cmpi .slt v2262 c0_i32_1516
  let c0_i32_1517 : BitVec 32 := 0#32
  let v2265 : BitVec 1 := Scalar.cmpi .slt v2261 c0_i32_1517
  let v2266 : BitVec 1 := Scalar.xori v2264 v2265
  let c0_i32_1515 : BitVec 32 := 0#32
  let v2263 : BitVec 1 := Scalar.cmpi .ne v2262 c0_i32_1515
  let v2267 : BitVec 1 := Scalar.andi v2266 v2263
  let v2268 : BitVec 32 := Scalar.addi v2262 v2261
  let v2269 : BitVec 32 := Scalar.select v2267 v2268 v2262
  let c1_i32_1518 : BitVec 32 := 1#32
  let v2270 : BitVec 32 := Scalar.muli v2269 c1_i32_1518
  let v2271 : BitVec 32 := Scalar.addi c0_i32_1519 v2270
  v2271.toNat
def k0_dev86 (d0 : Dev nD) : Nat :=
  let c0_i32_1532 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1524 : BitVec 32 := 24#32
  let v2280 : BitVec 32 := Scalar.addi v2 c24_i32_1524
  let c32_i32_1525 : BitVec 32 := 32#32
  let c0_i32_1526 : BitVec 32 := 0#32
  let v2281 : BitVec 1 := Scalar.cmpi .eq c32_i32_1525 c0_i32_1526
  let c1_i32_1527 : BitVec 32 := 1#32
  let v2282 : BitVec 32 := Scalar.select v2281 c1_i32_1527 c32_i32_1525
  let v2283 : BitVec 32 := Scalar.remsi v2280 v2282
  let c0_i32_1529 : BitVec 32 := 0#32
  let v2285 : BitVec 1 := Scalar.cmpi .slt v2283 c0_i32_1529
  let c0_i32_1530 : BitVec 32 := 0#32
  let v2286 : BitVec 1 := Scalar.cmpi .slt v2282 c0_i32_1530
  let v2287 : BitVec 1 := Scalar.xori v2285 v2286
  let c0_i32_1528 : BitVec 32 := 0#32
  let v2284 : BitVec 1 := Scalar.cmpi .ne v2283 c0_i32_1528
  let v2288 : BitVec 1 := Scalar.andi v2287 v2284
  let v2289 : BitVec 32 := Scalar.addi v2283 v2282
  let v2290 : BitVec 32 := Scalar.select v2288 v2289 v2283
  let c1_i32_1531 : BitVec 32 := 1#32
  let v2291 : BitVec 32 := Scalar.muli v2290 c1_i32_1531
  let v2292 : BitVec 32 := Scalar.addi c0_i32_1532 v2291
  v2292.toNat
def k0_dev87 (d0 : Dev nD) : Nat :=
  let c0_i32_1545 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1537 : BitVec 32 := 25#32
  let v2301 : BitVec 32 := Scalar.addi v2 c25_i32_1537
  let c32_i32_1538 : BitVec 32 := 32#32
  let c0_i32_1539 : BitVec 32 := 0#32
  let v2302 : BitVec 1 := Scalar.cmpi .eq c32_i32_1538 c0_i32_1539
  let c1_i32_1540 : BitVec 32 := 1#32
  let v2303 : BitVec 32 := Scalar.select v2302 c1_i32_1540 c32_i32_1538
  let v2304 : BitVec 32 := Scalar.remsi v2301 v2303
  let c0_i32_1542 : BitVec 32 := 0#32
  let v2306 : BitVec 1 := Scalar.cmpi .slt v2304 c0_i32_1542
  let c0_i32_1543 : BitVec 32 := 0#32
  let v2307 : BitVec 1 := Scalar.cmpi .slt v2303 c0_i32_1543
  let v2308 : BitVec 1 := Scalar.xori v2306 v2307
  let c0_i32_1541 : BitVec 32 := 0#32
  let v2305 : BitVec 1 := Scalar.cmpi .ne v2304 c0_i32_1541
  let v2309 : BitVec 1 := Scalar.andi v2308 v2305
  let v2310 : BitVec 32 := Scalar.addi v2304 v2303
  let v2311 : BitVec 32 := Scalar.select v2309 v2310 v2304
  let c1_i32_1544 : BitVec 32 := 1#32
  let v2312 : BitVec 32 := Scalar.muli v2311 c1_i32_1544
  let v2313 : BitVec 32 := Scalar.addi c0_i32_1545 v2312
  v2313.toNat
def k0_dev88 (d0 : Dev nD) : Nat :=
  let c0_i32_1558 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1550 : BitVec 32 := 26#32
  let v2322 : BitVec 32 := Scalar.addi v2 c26_i32_1550
  let c32_i32_1551 : BitVec 32 := 32#32
  let c0_i32_1552 : BitVec 32 := 0#32
  let v2323 : BitVec 1 := Scalar.cmpi .eq c32_i32_1551 c0_i32_1552
  let c1_i32_1553 : BitVec 32 := 1#32
  let v2324 : BitVec 32 := Scalar.select v2323 c1_i32_1553 c32_i32_1551
  let v2325 : BitVec 32 := Scalar.remsi v2322 v2324
  let c0_i32_1555 : BitVec 32 := 0#32
  let v2327 : BitVec 1 := Scalar.cmpi .slt v2325 c0_i32_1555
  let c0_i32_1556 : BitVec 32 := 0#32
  let v2328 : BitVec 1 := Scalar.cmpi .slt v2324 c0_i32_1556
  let v2329 : BitVec 1 := Scalar.xori v2327 v2328
  let c0_i32_1554 : BitVec 32 := 0#32
  let v2326 : BitVec 1 := Scalar.cmpi .ne v2325 c0_i32_1554
  let v2330 : BitVec 1 := Scalar.andi v2329 v2326
  let v2331 : BitVec 32 := Scalar.addi v2325 v2324
  let v2332 : BitVec 32 := Scalar.select v2330 v2331 v2325
  let c1_i32_1557 : BitVec 32 := 1#32
  let v2333 : BitVec 32 := Scalar.muli v2332 c1_i32_1557
  let v2334 : BitVec 32 := Scalar.addi c0_i32_1558 v2333
  v2334.toNat
def k0_dev89 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1563 : BitVec 32 := 27#32
  let v2343 : BitVec 32 := Scalar.addi v2 c27_i32_1563
  let c32_i32_1564 : BitVec 32 := 32#32
  let c0_i32_1565 : BitVec 32 := 0#32
  let v2344 : BitVec 1 := Scalar.cmpi .eq c32_i32_1564 c0_i32_1565
  let c1_i32_1566 : BitVec 32 := 1#32
  let v2345 : BitVec 32 := Scalar.select v2344 c1_i32_1566 c32_i32_1564
  let v2346 : BitVec 32 := Scalar.remsi v2343 v2345
  let c0_i32_1568 : BitVec 32 := 0#32
  let v2348 : BitVec 1 := Scalar.cmpi .slt v2346 c0_i32_1568
  let c0_i32_1569 : BitVec 32 := 0#32
  let v2349 : BitVec 1 := Scalar.cmpi .slt v2345 c0_i32_1569
  let v2350 : BitVec 1 := Scalar.xori v2348 v2349
  let c0_i32_1567 : BitVec 32 := 0#32
  let v2347 : BitVec 1 := Scalar.cmpi .ne v2346 c0_i32_1567
  let v2351 : BitVec 1 := Scalar.andi v2350 v2347
  let v2352 : BitVec 32 := Scalar.addi v2346 v2345
  let v2353 : BitVec 32 := Scalar.select v2351 v2352 v2346
  let c1_i32_1570 : BitVec 32 := 1#32
  let v2354 : BitVec 32 := Scalar.muli v2353 c1_i32_1570
  let v2355 : BitVec 32 := Scalar.addi c0_i32_1571 v2354
  v2355.toNat
def k0_dev90 (d0 : Dev nD) : Nat :=
  let c0_i32_1584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1576 : BitVec 32 := 28#32
  let v2364 : BitVec 32 := Scalar.addi v2 c28_i32_1576
  let c32_i32_1577 : BitVec 32 := 32#32
  let c0_i32_1578 : BitVec 32 := 0#32
  let v2365 : BitVec 1 := Scalar.cmpi .eq c32_i32_1577 c0_i32_1578
  let c1_i32_1579 : BitVec 32 := 1#32
  let v2366 : BitVec 32 := Scalar.select v2365 c1_i32_1579 c32_i32_1577
  let v2367 : BitVec 32 := Scalar.remsi v2364 v2366
  let c0_i32_1581 : BitVec 32 := 0#32
  let v2369 : BitVec 1 := Scalar.cmpi .slt v2367 c0_i32_1581
  let c0_i32_1582 : BitVec 32 := 0#32
  let v2370 : BitVec 1 := Scalar.cmpi .slt v2366 c0_i32_1582
  let v2371 : BitVec 1 := Scalar.xori v2369 v2370
  let c0_i32_1580 : BitVec 32 := 0#32
  let v2368 : BitVec 1 := Scalar.cmpi .ne v2367 c0_i32_1580
  let v2372 : BitVec 1 := Scalar.andi v2371 v2368
  let v2373 : BitVec 32 := Scalar.addi v2367 v2366
  let v2374 : BitVec 32 := Scalar.select v2372 v2373 v2367
  let c1_i32_1583 : BitVec 32 := 1#32
  let v2375 : BitVec 32 := Scalar.muli v2374 c1_i32_1583
  let v2376 : BitVec 32 := Scalar.addi c0_i32_1584 v2375
  v2376.toNat
def k0_dev91 (d0 : Dev nD) : Nat :=
  let c0_i32_1597 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1589 : BitVec 32 := 29#32
  let v2385 : BitVec 32 := Scalar.addi v2 c29_i32_1589
  let c32_i32_1590 : BitVec 32 := 32#32
  let c0_i32_1591 : BitVec 32 := 0#32
  let v2386 : BitVec 1 := Scalar.cmpi .eq c32_i32_1590 c0_i32_1591
  let c1_i32_1592 : BitVec 32 := 1#32
  let v2387 : BitVec 32 := Scalar.select v2386 c1_i32_1592 c32_i32_1590
  let v2388 : BitVec 32 := Scalar.remsi v2385 v2387
  let c0_i32_1594 : BitVec 32 := 0#32
  let v2390 : BitVec 1 := Scalar.cmpi .slt v2388 c0_i32_1594
  let c0_i32_1595 : BitVec 32 := 0#32
  let v2391 : BitVec 1 := Scalar.cmpi .slt v2387 c0_i32_1595
  let v2392 : BitVec 1 := Scalar.xori v2390 v2391
  let c0_i32_1593 : BitVec 32 := 0#32
  let v2389 : BitVec 1 := Scalar.cmpi .ne v2388 c0_i32_1593
  let v2393 : BitVec 1 := Scalar.andi v2392 v2389
  let v2394 : BitVec 32 := Scalar.addi v2388 v2387
  let v2395 : BitVec 32 := Scalar.select v2393 v2394 v2388
  let c1_i32_1596 : BitVec 32 := 1#32
  let v2396 : BitVec 32 := Scalar.muli v2395 c1_i32_1596
  let v2397 : BitVec 32 := Scalar.addi c0_i32_1597 v2396
  v2397.toNat
def k0_dev92 (d0 : Dev nD) : Nat :=
  let c0_i32_1610 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1602 : BitVec 32 := 30#32
  let v2406 : BitVec 32 := Scalar.addi v2 c30_i32_1602
  let c32_i32_1603 : BitVec 32 := 32#32
  let c0_i32_1604 : BitVec 32 := 0#32
  let v2407 : BitVec 1 := Scalar.cmpi .eq c32_i32_1603 c0_i32_1604
  let c1_i32_1605 : BitVec 32 := 1#32
  let v2408 : BitVec 32 := Scalar.select v2407 c1_i32_1605 c32_i32_1603
  let v2409 : BitVec 32 := Scalar.remsi v2406 v2408
  let c0_i32_1607 : BitVec 32 := 0#32
  let v2411 : BitVec 1 := Scalar.cmpi .slt v2409 c0_i32_1607
  let c0_i32_1608 : BitVec 32 := 0#32
  let v2412 : BitVec 1 := Scalar.cmpi .slt v2408 c0_i32_1608
  let v2413 : BitVec 1 := Scalar.xori v2411 v2412
  let c0_i32_1606 : BitVec 32 := 0#32
  let v2410 : BitVec 1 := Scalar.cmpi .ne v2409 c0_i32_1606
  let v2414 : BitVec 1 := Scalar.andi v2413 v2410
  let v2415 : BitVec 32 := Scalar.addi v2409 v2408
  let v2416 : BitVec 32 := Scalar.select v2414 v2415 v2409
  let c1_i32_1609 : BitVec 32 := 1#32
  let v2417 : BitVec 32 := Scalar.muli v2416 c1_i32_1609
  let v2418 : BitVec 32 := Scalar.addi c0_i32_1610 v2417
  v2418.toNat
def k0_dev93 (d0 : Dev nD) : Nat :=
  let c0_i32_1623 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1615 : BitVec 32 := 31#32
  let v2427 : BitVec 32 := Scalar.addi v2 c31_i32_1615
  let c32_i32_1616 : BitVec 32 := 32#32
  let c0_i32_1617 : BitVec 32 := 0#32
  let v2428 : BitVec 1 := Scalar.cmpi .eq c32_i32_1616 c0_i32_1617
  let c1_i32_1618 : BitVec 32 := 1#32
  let v2429 : BitVec 32 := Scalar.select v2428 c1_i32_1618 c32_i32_1616
  let v2430 : BitVec 32 := Scalar.remsi v2427 v2429
  let c0_i32_1620 : BitVec 32 := 0#32
  let v2432 : BitVec 1 := Scalar.cmpi .slt v2430 c0_i32_1620
  let c0_i32_1621 : BitVec 32 := 0#32
  let v2433 : BitVec 1 := Scalar.cmpi .slt v2429 c0_i32_1621
  let v2434 : BitVec 1 := Scalar.xori v2432 v2433
  let c0_i32_1619 : BitVec 32 := 0#32
  let v2431 : BitVec 1 := Scalar.cmpi .ne v2430 c0_i32_1619
  let v2435 : BitVec 1 := Scalar.andi v2434 v2431
  let v2436 : BitVec 32 := Scalar.addi v2430 v2429
  let v2437 : BitVec 32 := Scalar.select v2435 v2436 v2430
  let c1_i32_1622 : BitVec 32 := 1#32
  let v2438 : BitVec 32 := Scalar.muli v2437 c1_i32_1622
  let v2439 : BitVec 32 := Scalar.addi c0_i32_1623 v2438
  v2439.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S16384x256 : Shape := ⟨2, ![16384, 256]⟩
abbrev S256x256 : Shape := ⟨2, ![256, 256]⟩
abbrev S32x512x256 : Shape := ⟨3, ![32, 512, 256]⟩
abbrev S_ : Shape := ⟨0, ![]⟩
abbrev S512x256 : Shape := ⟨2, ![512, 256]⟩

abbrev nBuf : Space → Nat
  | .hbm => 10
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x256, .bf16⟩
  | .hbm, ⟨2, _⟩ => ⟨S16384x256, .f32⟩
  | .hbm, ⟨3, _⟩ => ⟨S32x512x256, .f32⟩
  | .hbm, ⟨4, _⟩ => ⟨S_, .f32⟩
  | .hbm, ⟨5, _⟩ => ⟨S512x256, .f32⟩
  | .hbm, ⟨6, _⟩ => ⟨S512x256, .bf16⟩
  | .hbm, ⟨7, _⟩ => ⟨S512x256, .f32⟩
  | .hbm, ⟨8, _⟩ => ⟨S512x256, .bf16⟩
  | .hbm, ⟨9, _⟩ => ⟨S512x256, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Model.lean ====
/-
The kernel body of one device as seven loops over its 31 peers, and the equation with the printed body.

Device `d` meets its peers in the order `d + 1, d + 2, …, d + 31` (modulo 32). Each printed stretch — signal, first
transfer, first landing, first send wait, second transfer, second landing, second send wait — is one step at a
symbolic offset `r : Fin 31`, run over the list of the 31 offsets.
-/
module

public import proofs.«01_k».proof.Proof.Gen.KernelIdeal.Skeleton
public import proofs.«01_k».proof.Proof.Gen.KernelIdeal.Points
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.AllReduce

open Cert.KernelIdeal Cert.KernelIdeal.Gen
open Idealize.ShloMosaic
open Idealize.ShloMosaic.TcCoe
open Idealize.SL.Sem

variable {F : FTy → Type} [FloatOps F]

/-! ## The buffers -/

abbrev tM : Memref sig .tc .vmem S512x256 .bf16 := Memref.whole cc0_stg0_0
abbrev wM : Memref sig .tc .vmem S256x256 .bf16 := Memref.whole cc0_stg1_0
abbrev oM : Memref sig .tc .vmem S512x256 .f32 := Memref.whole cc0_stg2_0
abbrev sM : Memref sig .tc .vmem S512x256 .bf16 := Memref.whole cc0_scratch0
abbrev aM : Memref sig .tc .vmem S32x16x256 .bf16 := Memref.whole cc0_scratch1
abbrev bM : Memref sig .tc .vmem S32x16x256 .bf16 := Memref.whole cc0_scratch2

/-! ## The peers -/

/-- The offset of step `r` as the kernel's word: `1 + r`. -/
abbrev wd (r : Fin 31) : BitVec 32 := BitVec.ofNat 32 (1 + r.val)

/-- The device `d + w` modulo 32, by the operations the kernel computes it with. -/
def devW (d0 : Dev nD) (w : BitVec 32) : Nat :=
  let c0 : BitVec 32 := 0#32
  let v0 : BitVec 32 := Dev.word d0
  let c1 : BitVec 32 := 1#32
  let v1 : BitVec 32 := Scalar.divsi v0 c1
  let c32 : BitVec 32 := 32#32
  let v2 : BitVec 32 := Scalar.remsi v1 c32
  let v4 : BitVec 32 := Scalar.addi v2 w
  let c32' : BitVec 32 := 32#32
  let c0' : BitVec 32 := 0#32
  let v5 : BitVec 1 := Scalar.cmpi .eq c32' c0'
  let c1' : BitVec 32 := 1#32
  let v6 : BitVec 32 := Scalar.select v5 c1' c32'
  let v7 : BitVec 32 := Scalar.remsi v4 v6
  let z4 : BitVec 32 := 0#32
  let v9 : BitVec 1 := Scalar.cmpi .slt v7 z4
  let z5 : BitVec 32 := 0#32
  let v10 : BitVec 1 := Scalar.cmpi .slt v6 z5
  let v11 : BitVec 1 := Scalar.xori v9 v10
  let z3 : BitVec 32 := 0#32
  let v8 : BitVec 1 := Scalar.cmpi .ne v7 z3
  let v12 : BitVec 1 := Scalar.andi v11 v8
  let v13 : BitVec 32 := Scalar.addi v7 v6
  let v14 : BitVec 32 := Scalar.select v12 v13 v7
  let c1'' : BitVec 32 := 1#32
  let v15 : BitVec 32 := Scalar.muli v14 c1''
  let v16 : BitVec 32 := Scalar.addi c0 v15
  v16.toNat

theorem devW_eq : ∀ (d : Dev nD) (r : Fin 31), devW d (wd r) = (d.val + 1 + r.val) % 32 := by decide +kernel

theorem devW_lt (d : Dev nD) (r : Fin 31) : devW d (wd r) < nD := by
  rw [devW_eq]; exact Nat.mod_lt _ (by decide)

/-- The peer at offset `r`, as the kernel addresses it. -/
abbrev dv (d : Dev nD) (r : Fin 31) : Dev nD := ⟨devW d (wd r), devW_lt d r⟩

/-! ## The views -/

/-- One semaphore of an array of 32, at the peer of offset `r` / at `d` itself. -/
abbrev semP (a : DmaSems sig S32) (d : Dev nD) (r : Fin 31) : DmaSem sig :=
  ((a.slice (Rect.unit (s := S32) (k0_off1 d (wd r)) S1.size (k0_off1_inb d r))).squeeze S_ squeezes_S1_S_).sem
abbrev semO (a : DmaSems sig S32) (d : Dev nD) : DmaSem sig :=
  ((a.slice (Rect.unit (s := S32) (k0_off2 d) S1.size (k0_off2_inb d))).squeeze S_ squeezes_S1_S_).sem

/-- The slot of a gather buffer that belongs to `d` / to the peer at offset `r`; its first slot. -/
abbrev slotO (b : Memref sig .tc .vmem S32x16x256 .bf16) (d : Dev nD) : Memref sig .tc .vmem S16x256 .bf16 :=
  (b.slice (Rect.unit (s := S32x16x256) (k0_off3 d) S1x16x256.size (k0_off3_inb d)) (fun _ => rfl)).squeeze S16x256 squeezes_S1x16x256_S16x256
abbrev slotP (b : Memref sig .tc .vmem S32x16x256 .bf16) (d : Dev nD) (r : Fin 31) : Memref sig .tc .vmem S16x256 .bf16 :=
  (b.slice (Rect.unit (s := S32x16x256) (k0_off7 d (wd r)) S1x16x256.size (k0_off7_inb d r)) (fun _ => rfl)).squeeze S16x256 squeezes_S1x16x256_S16x256
abbrev slot0 (b : Memref sig .tc .vmem S32x16x256 .bf16) : Memref sig .tc .vmem S16x256 .bf16 :=
  (b.slice (Rect.unit (s := S32x16x256) ![0, 0, 0] S1x16x256.size inb_S32x16x256_S1x16x256_0_0_0) (fun _ => rfl)).squeeze S16x256 squeezes_S1x16x256_S16x256

/-- The rows of the staged block meant for the peer at offset `r`; its first rows. -/
abbrev rowsP (d : Dev nD) (r : Fin 31) : Memref sig .tc .vmem S16x256 .bf16 :=
  sM.slice (Rect.unit (s := S512x256) (k0_off4 d (wd r)) S16x256.size (k0_off4_inb d r)) (fun _ => rfl)
abbrev rows0 : Memref sig .tc .vmem S16x256 .bf16 :=
  sM.slice (Rect.unit (s := S512x256) ![0, 0] S16x256.size inb_S512x256_S16x256_0_0) (fun _ => rfl)

/-! ## The steps -/

abbrev Eff : Type → Type _ := TpuEff nD τ sig (Elt F) Λ₀ .tc

/-- A step at every offset of a list, in order, and what follows. -/
def loop {α : Type} (f : Fin 31 → Eff (F := F) PUnit) : List (Fin 31) → Prog (Eff (F := F)) α → Prog (Eff (F := F)) α
  | [], k => k
  | r :: l, k => .op (f r) fun _ => loop f l k

def all31 : List (Fin 31) :=
  [0, 1, 2, 3, 4, 5, 6, 7, 8, 9, 10, 11, 12, 13, 14, 15, 16, 17, 18, 19, 20, 21, 22, 23, 24, 25, 26, 27, 28, 29, 30]

theorem hs_whole : sM.IsWhole := Memref.isWhole_whole _
theorem ha_whole : aM.IsWhole := Memref.isWhole_whole _
theorem hb_whole : bM.IsWhole := Memref.isWhole_whole _

/-- Signal the peer's barrier semaphore. -/
def sigS (d : Dev nD) (r : Fin 31) : Eff (F := F) PUnit := .semSignal (Dev.tc (dv d r)) barrier0 (1#32 : BitVec 32).toInt

/-- Send the peer its rows of the staged block. -/
def snd1 (d : Dev nD) (r : Fin 31) : Eff (F := F) PUnit :=
  (.enqueueDma (rowsP d r) (.remote (Dev.tc (dv d r)) (slotO aM d) (.dma (semP cc0_scratch3 d r))) (.dma (semO cc0_scratch4 d))
    (hs_whole.wordExact_slice rfl _ (k0_off4_wordsbf16 d r)) ((ha_whole.wordExact_slice rfl _ (k0_off3_wordsbf16 d)).reshape _ _) ⟨⟨rfl, Or.inl rfl⟩, trivial⟩)

/-- Wait for the peer's rows. -/
def rcv1 (d : Dev nD) (r : Fin 31) : Eff (F := F) PUnit :=
  (.waitDma2 (semP cc0_scratch4 d r) rows0 (slotP aM d r)
    (hs_whole.wordExact_slice rfl _ wordsbf16_S512x256_S16x256_0_0) ((ha_whole.wordExact_slice rfl _ (k0_off7_wordsbf16 d r)).reshape _ _))

/-- Wait for the first transfer to the peer to have left. -/
def fin1 (d : Dev nD) (r : Fin 31) : Eff (F := F) PUnit :=
  (.waitDma2 (semP cc0_scratch3 d r) (slotO aM d) (rowsP d r)
    ((ha_whole.wordExact_slice rfl _ (k0_off3_wordsbf16 d)).reshape _ _) (hs_whole.wordExact_slice rfl _ (k0_off4_wordsbf16 d r)))

/-- Send the peer this device's rows of the result. -/
def snd2 (d : Dev nD) (r : Fin 31) : Eff (F := F) PUnit :=
  (.enqueueDma (slotO bM d) (.remote (Dev.tc (dv d r)) (slotO bM d) (.dma (semP cc0_scratch5 d r))) (.dma (semO cc0_scratch6 d))
    ((hb_whole.wordExact_slice rfl _ (k0_off3_wordsbf16 d)).reshape _ _) ((hb_whole.wordExact_slice rfl _ (k0_off3_wordsbf16 d)).reshape _ _) ⟨⟨rfl, Or.inl rfl⟩, trivial⟩)

/-- Wait for the peer's rows of the result. -/
def rcv2 (d : Dev nD) (r : Fin 31) : Eff (F := F) PUnit :=
  (.waitDma2 (semP cc0_scratch6 d r) (slot0 bM) (slotP bM d r)
    ((hb_whole.wordExact_slice rfl _ wordsbf16_S32x16x256_S1x16x256_0_0_0).reshape _ _) ((hb_whole.wordExact_slice rfl _ (k0_off7_wordsbf16 d r)).reshape _ _))

/-- Wait for the second transfer to the peer to have left. -/
def fin2 (d : Dev nD) (r : Fin 31) : Eff (F := F) PUnit :=
  (.waitDma2 (semP cc0_scratch5 d r) (slotO bM d) (slotO bM d)
    ((hb_whole.wordExact_slice rfl _ (k0_off3_wordsbf16 d)).reshape _ _) ((hb_whole.wordExact_slice rfl _ (k0_off3_wordsbf16 d)).reshape _ _))

/-- The rectangles of the whole-buffer accesses and of the accesses to `d`'s own rows and slot. -/
abbrev rS : Rect S512x256 := Rect.unit (s := S512x256) ![0, 0] S512x256.size inb_S512x256_S512x256_0_0
abbrev rW : Rect S256x256 := Rect.unit (s := S256x256) ![0, 0] S256x256.size inb_S256x256_S256x256_0_0
abbrev rG : Rect S32x16x256 := Rect.unit (s := S32x16x256) ![0, 0, 0] S32x16x256.size inb_S32x16x256_S32x16x256_0_0_0
abbrev rRows (d : Dev nD) : Rect S512x256 := Rect.unit (s := S512x256) (k0_off5 d) S16x256.size (k0_off5_inb d)
abbrev rSlot (d : Dev nD) : Rect S32x16x256 := Rect.unit (s := S32x16x256) (k0_off6 d) S1x16x256.size (k0_off6_inb d)

/-- After the second landings: gather the result and let the second transfers finish. -/
def tailP (d : Dev nD) : Prog (Eff (F := F)) PUnit :=
  .op (.load bM rG.toLoadRect (View.loadsAt_vmem h_S32x16x256)) fun v3037 =>
  .op (.load oM rS.toLoadRect (View.loadsAt_vmem h_S512x256)) fun _ =>
  .op (.store oM rS (k0_pay5 v3037) Finset.univ (View.stores_vmem_bits_univ h_S512x256 rfl) (.inl rfl)) fun _ =>
  loop (fin2 d) all31 (.ret ⟨⟩)

/-- After the first landings: sum, multiply, and share the product. -/
def midP (d : Dev nD) : Prog (Eff (F := F)) PUnit :=
  .op (.load aM rG.toLoadRect (View.loadsAt_vmem h_S32x16x256)) fun v1629 =>
  .op (.load wM rW.toLoadRect (View.loadsAt_vmem h_S256x256)) fun v1633 =>
  .op (.load bM (rSlot d).toLoadRect (View.loadsAt_vmem h_S1x16x256)) fun _ =>
  .op (.store bM (rSlot d) (k0_pay4 v1629 v1633) Finset.univ (View.stores_vmem h_S1x16x256 (hb_whole.storeExact_slice rfl _ (k0_off6_packedbf16 d)) (fun _ => rfl)) (.inl rfl)) fun _ =>
  loop (fin1 d) all31 (loop (snd2 d) all31 (loop (rcv2 d) all31 (tailP d)))

/-- After the signals: stage the block, wait for the peers, send, keep the own rows, receive. -/
def headP (d : Dev nD) : Prog (Eff (F := F)) PUnit :=
  .op (.load tM rS.toLoadRect (View.loadsAt_vmem h_S512x256)) fun v407 =>
  .op (.load sM rS.toLoadRect (View.loadsAt_vmem h_S512x256)) fun _ =>
  .op (.store sM rS (k0_pay1 v407) Finset.univ (View.stores_vmem h_S512x256 (hs_whole.storeExact_slice rfl _ packedbf16_S512x256_S512x256_0_0) (fun _ => rfl)) (.inl rfl)) fun _ =>
  .op (.semWait barrier0 (31#32 : BitVec 32).toInt) fun _ =>
  loop (snd1 d) all31 <|
  .op (.load sM (rRows d).toLoadRect (View.loadsAt_vmem h_S16x256)) fun v1065 =>
  .op (.load aM (rSlot d).toLoadRect (View.loadsAt_vmem h_S1x16x256)) fun _ =>
  .op (.store aM (rSlot d) (k0_pay3 (k0_pay2 v1065)) Finset.univ (View.stores_vmem h_S1x16x256 (ha_whole.storeExact_slice rfl _ (k0_off6_packedbf16 d)) (fun _ => rfl)) (.inl rfl)) fun _ =>
  loop (rcv1 d) all31 (midP d)

/-- The body of the kernel. -/
def bodyP : Prog (Eff (F := F)) PUnit := .op .deviceId fun d => loop (sigS d) all31 (headP d)

set_option maxRecDepth 1000000 in
theorem body_eq : cc0_body (F := F) tM (Memref.isWhole_whole _) wM (Memref.isWhole_whole _) oM (Memref.isWhole_whole _)
    sM (Memref.isWhole_whole _) aM (Memref.isWhole_whole _) bM (Memref.isWhole_whole _) cc0_scratch3 cc0_scratch4 cc0_scratch5 cc0_scratch6
    = bodyP := by
  rw [cc0_body_eq_skeleton]
  chain_rfl

end Cert.KernelIdeal.AllReduce

end
-- ==== Proof.Places.lean ====
/-
Who meets whom, and where: the peer at an offset, the semaphore of an array at a device, the slab of rows and the slot
of a gather buffer that belong to a device, and the places the kernel's views put their elements at.
-/
module

public import proofs.«01_k».proof.Proof.Model
public import Idealize.ShloMosaic.Lib.ValueLayout

@[expose] public section

set_option maxRecDepth 16384

noncomputable section

namespace Cert.KernelIdeal.AllReduce

open Cert.KernelIdeal Cert.KernelIdeal.Gen
open Idealize.ShloMosaic
open Idealize.ShloMosaic.TcCoe
open Idealize.SL.Sem

/-! ## The peers -/

/-- The peer of `d` at offset `r`. -/
def peer (d : Dev nD) (r : Fin 31) : Dev nD := ⟨(d.val + 1 + r.val) % 32, Nat.mod_lt _ (by decide)⟩

theorem dv_eq (d : Dev nD) (r : Fin 31) : dv d r = peer d r := Fin.ext (devW_eq d r)

theorem peer_ne (d : Dev nD) (r : Fin 31) : peer d r ≠ d := by
  intro h
  have h := congrArg Fin.val h
  have hd := d.isLt; have hr := r.isLt
  simp only [peer] at h
  have : nD = 32 := rfl
  omega

theorem peer_injective (d : Dev nD) : Function.Injective (peer d) := by
  intro r r' h
  have h := congrArg Fin.val h
  have hd := d.isLt; have hr := r.isLt; have hr' := r'.isLt
  simp only [peer] at h
  have : nD = 32 := rfl
  exact Fin.ext (by omega)

/-- The other devices. -/
abbrev others (d : Dev nD) : Finset (Dev nD) := Finset.univ.erase d

theorem map_peer (d : Dev nD) : Finset.univ.map ⟨peer d, peer_injective d⟩ = others d := by
  ext p
  simp only [Finset.mem_map, Finset.mem_univ, true_and, Function.Embedding.coeFn_mk, Finset.mem_erase, and_true]
  constructor
  · rintro ⟨r, rfl⟩; exact peer_ne d r
  · intro h
    have hp := p.isLt; have hd := d.isLt
    have hne : p.val ≠ d.val := fun h' => h (Fin.ext h')
    have : nD = 32 := rfl
    exact ⟨⟨(p.val + 31 - d.val) % 32, by omega⟩, Fin.ext (by simp only [peer]; omega)⟩

theorem peer_mem (d : Dev nD) (r : Fin 31) : peer d r ∈ others d := Finset.mem_erase.mpr ⟨peer_ne d r, Finset.mem_univ _⟩

theorem all31_nodup : all31.Nodup := by decide
theorem all31_univ : ∀ r : Fin 31, r ∈ all31 := by decide

/-! ## The semaphores -/

/-- Semaphore `j` of the kernel's array `k` (0 and 1: the first exchange's sends and landings; 2 and 3: the second's). -/
def dsem (k : Fin 4) (j : Dev nD) : DmaSem sig := ⟨3 + 32 * k.val + j.val, by
  have := j.isLt; have := k.isLt; have h : nD = 32 := rfl
  show _ < 131; omega⟩

theorem off1_eq : ∀ (d : Dev nD) (r : Fin 31), k0_off1 d (wd r) = ![(peer d r).val] := by decide +kernel
theorem off4_eq : ∀ (d : Dev nD) (r : Fin 31), k0_off4 d (wd r) = ![16 * (peer d r).val, 0] := by decide +kernel
theorem off7_eq : ∀ (d : Dev nD) (r : Fin 31), k0_off7 d (wd r) = ![(peer d r).val, 0, 0] := by decide +kernel

theorem inb1 (j : Dev nD) : ∀ a, (![j.val] : Fin 1 → Nat) a + S1.size a ≤ S32.size a := by
  intro a; have := j.isLt; fin_cases a; show j.val + 1 ≤ 32; exact this

/-- Semaphore `j` of an array, by its index. -/
abbrev semAt (a : DmaSems sig S32) (j : Dev nD) : DmaSem sig :=
  ((a.slice (Rect.unit (s := S32) ![j.val] S1.size (inb1 j))).squeeze S_ squeezes_S1_S_).sem

theorem semAt_dsem : ∀ j : Dev nD, semAt cc0_scratch3 j = dsem 0 j ∧ semAt cc0_scratch4 j = dsem 1 j
    ∧ semAt cc0_scratch5 j = dsem 2 j ∧ semAt cc0_scratch6 j = dsem 3 j := by decide +kernel

theorem semP_at (a : DmaSems sig S32) (d : Dev nD) (r : Fin 31) : semP a d r = semAt a (peer d r) := by
  unfold semP semAt
  rw [SemArray.slice_unit_congr a (off1_eq d r) _ (inb1 _)]
theorem semO_at (a : DmaSems sig S32) (d : Dev nD) : semO a d = semAt a d := by
  unfold semO semAt
  rw [SemArray.slice_unit_congr a (k0_off2_eq d) _ (inb1 _)]

/-! ## Slabs and slots -/

/-- The rows of a block that belong to device `j`, and the slot of a gather buffer that does. -/
def rowSet (j : Dev nD) : Finset S512x256.Idx := Finset.univ.filter fun i => (i 0).val / 16 = j.val
def slotSet (j : Dev nD) : Finset S32x16x256.Idx := Finset.univ.filter fun i => (i 0).val = j.val

theorem mem_rowSet {j : Dev nD} {i : S512x256.Idx} : i ∈ rowSet j ↔ (i 0).val / 16 = j.val := by
  unfold rowSet; rw [Finset.mem_filter]; exact ⟨fun h => h.2, fun h => ⟨Finset.mem_univ _, h⟩⟩
theorem mem_slotSet {j : Dev nD} {i : S32x16x256.Idx} : i ∈ slotSet j ↔ (i 0).val = j.val := by
  unfold slotSet; rw [Finset.mem_filter]; exact ⟨fun h => h.2, fun h => ⟨Finset.mem_univ _, h⟩⟩

theorem rowSet_disjoint (j j' : Dev nD) (h : j ≠ j') : Disjoint (rowSet j) (rowSet j') :=
  Finset.disjoint_left.mpr fun i h1 h2 => h (Fin.ext ((mem_rowSet.mp h1).symm.trans (mem_rowSet.mp h2)))
theorem slotSet_disjoint (j j' : Dev nD) (h : j ≠ j') : Disjoint (slotSet j) (slotSet j') :=
  Finset.disjoint_left.mpr fun i h1 h2 => h (Fin.ext ((mem_slotSet.mp h1).symm.trans (mem_slotSet.mp h2)))
theorem rowSet_cover : Finset.univ.biUnion rowSet = Finset.univ := by
  refine Finset.eq_univ_iff_forall.mpr fun i => Finset.mem_biUnion.mpr ?_
  have h : (i 0).val < 512 := (i 0).isLt
  exact ⟨⟨(i 0).val / 16, by show _ < 32; omega⟩, Finset.mem_univ _, mem_rowSet.mpr rfl⟩
theorem slotSet_cover : Finset.univ.biUnion slotSet = Finset.univ :=
  Finset.eq_univ_iff_forall.mpr fun i => Finset.mem_biUnion.mpr ⟨⟨(i 0).val, (i 0).isLt⟩, Finset.mem_univ _, mem_slotSet.mpr rfl⟩

/-- Row `p` of device `j`'s slab of a block. -/
def rowIx (j : Dev nD) (p : Fin 16) (q : Fin 256) : S512x256.Idx :=
  ValueIdx.ix2 (n0 := 512) (n1 := 256) ⟨16 * j.val + p.val, by have := j.isLt; have h : nD = 32 := rfl; omega⟩ q
/-- Row `p` of device `j`'s slot. -/
def slotIx (j : Dev nD) (p : Fin 16) (q : Fin 256) : S32x16x256.Idx := ValueIdx.ix3 (n0 := 32) (n1 := 16) (n2 := 256) j p q

theorem rowIx_mem (j : Dev nD) (p : Fin 16) (q : Fin 256) : rowIx j p q ∈ rowSet j :=
  mem_rowSet.mpr (by show (16 * j.val + p.val) / 16 = j.val; omega)
theorem slotIx_mem (j : Dev nD) (p : Fin 16) (q : Fin 256) : slotIx j p q ∈ slotSet j := mem_slotSet.mpr rfl

theorem eq_rowIx {j : Dev nD} {i : S512x256.Idx} (h : i ∈ rowSet j) :
    i = rowIx j ⟨(i 0).val % 16, Nat.mod_lt _ (by decide)⟩ (i 1) := by
  have h := mem_rowSet.mp h
  funext a
  fin_cases a
  · exact Fin.ext (by show (i 0).val = 16 * j.val + (i 0).val % 16; omega)
  · rfl
theorem eq_slotIx {j : Dev nD} {i : S32x16x256.Idx} (h : i ∈ slotSet j) : i = slotIx j (i 1) (i 2) := by
  have h := mem_slotSet.mp h
  funext a
  fin_cases a
  · exact Fin.ext h
  · rfl
  · rfl

/-! ## Where the views put their elements -/

/-- An element `(p, q)` of a slab. -/
abbrev tileIx (p : Fin 16) (q : Fin 256) : S16x256.Idx := ValueIdx.ix2 (n0 := 16) (n1 := 256) p q

theorem slot_place {off : Fin 3 → Nat} (j : Dev nD) (h : off = ![j.val, 0, 0]) (inb : ∀ a, off a + S1x16x256.size a ≤ S32x16x256.size a)
    (hn : S16x256.numel = S1x16x256.numel) (p : Fin 16) (q : Fin 256) :
    (Rect.unit (s := S32x16x256) off S1x16x256.size inb).emb (Shape.reshapeEquiv hn (tileIx p q)) = slotIx j p q := by
  subst h
  rw [show Shape.reshapeEquiv hn (tileIx p q) = ValueIdx.ix3 (n0 := 1) (n1 := 16) (n2 := 256) ⟨0, Nat.one_pos⟩ p q from ValueIdx.reshapeEquiv_ix2_1ab hn p q]
  funext a
  refine Fin.ext ?_
  rw [Rect.emb_apply]
  fin_cases a
  · show j.val + 1 * 0 = j.val; omega
  · show 0 + 1 * p.val = p.val; omega
  · show 0 + 1 * q.val = q.val; omega

theorem row_place {off : Fin 2 → Nat} (j : Dev nD) (h : off = ![16 * j.val, 0]) (inb : ∀ a, off a + S16x256.size a ≤ S512x256.size a)
    (p : Fin 16) (q : Fin 256) :
    (Rect.unit (s := S512x256) off S16x256.size inb).emb (tileIx p q) = rowIx j p q := by
  subst h
  funext a
  refine Fin.ext ?_
  rw [Rect.emb_apply]
  fin_cases a
  · show 16 * j.val + 1 * p.val = 16 * j.val + p.val; omega
  · show 0 + 1 * q.val = q.val; omega

theorem slotAcc_place {off : Fin 3 → Nat} (j : Dev nD) (h : off = ![j.val, 0, 0]) (inb : ∀ a, off a + S1x16x256.size a ≤ S32x16x256.size a)
    (p : Fin 16) (q : Fin 256) :
    (Rect.unit (s := S32x16x256) off S1x16x256.size inb).emb (ValueIdx.ix3 (n0 := 1) (n1 := 16) (n2 := 256) 0 p q) = slotIx j p q := by
  subst h
  funext a
  refine Fin.ext ?_
  rw [Rect.emb_apply]
  fin_cases a
  · show j.val + 1 * 0 = j.val; omega
  · show 0 + 1 * p.val = p.val; omega
  · show 0 + 1 * q.val = q.val; omega

theorem tile_surj (x : S16x256.Idx) : ∃ p q, x = tileIx p q := ⟨x 0, x 1, ValueIdx.eq_ix2 x⟩
theorem tile1_surj (x : S1x16x256.Idx) : ∃ p q, x = ValueIdx.ix3 (n0 := 1) (n1 := 16) (n2 := 256) 0 p q :=
  ⟨x 1, x 2, (ValueIdx.eq_ix3 x).trans (congrArg (fun u : Fin 1 => ValueIdx.ix3 (n0 := 1) (n1 := 16) (n2 := 256) u (x 1) (x 2)) (Subsingleton.elim (α := Fin 1) (x 0) 0))⟩

/-- The elements under an embedding of slabs that puts `(p, q)` at `f p q`. -/
theorem map_tile {X : Type} [DecidableEq X] {T : Type} [Fintype T] (e : T ↪ X) (ix : Fin 16 → Fin 256 → T) (f : Fin 16 → Fin 256 → X) (S : Finset X)
    (hs : ∀ x, ∃ p q, x = ix p q) (he : ∀ p q, e (ix p q) = f p q) (hf : ∀ p q, f p q ∈ S) (hS : ∀ i ∈ S, ∃ p q, i = f p q) :
    Finset.univ.map e = S := by
  ext i
  rw [Finset.mem_map]
  constructor
  · rintro ⟨x, -, rfl⟩
    obtain ⟨p, q, rfl⟩ := hs x
    rw [he]; exact hf p q
  · intro h
    obtain ⟨p, q, rfl⟩ := hS i h
    exact ⟨ix p q, Finset.mem_univ _, he p q⟩

theorem slot_exists {j : Dev nD} (i : S32x16x256.Idx) (h : i ∈ slotSet j) : ∃ p q, i = slotIx j p q := ⟨_, _, eq_slotIx h⟩
theorem row_exists {j : Dev nD} (i : S512x256.Idx) (h : i ∈ rowSet j) : ∃ p q, i = rowIx j p q := ⟨_, _, eq_rowIx h⟩

theorem slotO_set_a (d : Dev nD) : (slotO aM d).view.set = slotSet d :=
  map_tile _ tileIx (slotIx d) _ tile_surj (slot_place d (k0_off3_eq d) _ _) (slotIx_mem d) slot_exists
theorem slotO_set_b (d : Dev nD) : (slotO bM d).view.set = slotSet d :=
  map_tile _ tileIx (slotIx d) _ tile_surj (slot_place d (k0_off3_eq d) _ _) (slotIx_mem d) slot_exists
theorem rowsP_set (d : Dev nD) (r : Fin 31) : (rowsP d r).view.set = rowSet (peer d r) :=
  map_tile _ tileIx (rowIx (peer d r)) _ tile_surj (row_place (peer d r) (off4_eq d r) _) (rowIx_mem _) row_exists
theorem accRows_set (d : Dev nD) : (sM.access (rRows d)).set = rowSet d :=
  map_tile _ tileIx (rowIx d) _ tile_surj (row_place d (k0_off5_eq d) _) (rowIx_mem _) row_exists
theorem accSlot_set_a (d : Dev nD) : (aM.access (rSlot d)).set = slotSet d :=
  map_tile _ (ValueIdx.ix3 (n0 := 1) (n1 := 16) (n2 := 256) 0) (slotIx d) _ tile1_surj (slotAcc_place d (k0_off6_eq d) _) (slotIx_mem d) slot_exists
theorem accSlot_set_b (d : Dev nD) : (bM.access (rSlot d)).set = slotSet d :=
  map_tile _ (ValueIdx.ix3 (n0 := 1) (n1 := 16) (n2 := 256) 0) (slotIx d) _ tile1_surj (slotAcc_place d (k0_off6_eq d) _) (slotIx_mem d) slot_exists

/-! ## What a transfer and a store leave -/

variable {F : FTy → Type} [FloatOps F]

/-- The first transfer to a peer leaves, in this device's slot there, the peer's rows. -/
theorem send1_leaves (d : Dev nD) (r : Fin 31) (fd : S32x16x256.Idx → F .bf16) (fs : S512x256.Idx → F .bf16) (p : Fin 16) (q : Fin 256) :
    (slotO aM d).view.write (Elt F) fd ((rowsP d r).view.read (Elt F) fs) Finset.univ (slotIx d p q) = fs (rowIx (peer d r) p q) := by
  rw [← slot_place d (k0_off3_eq d) (k0_off3_inb d) squeezes_S1x16x256_S16x256.numel_eq p q,
    ← row_place (peer d r) (off4_eq d r) (k0_off4_inb d r) p q]
  exact View.write_emb_of_mem (v := (slotO aM d).view) (Val := Elt F) fd _ (Finset.mem_univ (tileIx p q))

/-- The second transfer leaves in the peer's buffer what this device's slot holds. -/
theorem send2_leaves (d : Dev nD) (fd fs : S32x16x256.Idx → F .bf16) (p : Fin 16) (q : Fin 256) :
    (slotO bM d).view.write (Elt F) fd ((slotO bM d).view.read (Elt F) fs) Finset.univ (slotIx d p q) = fs (slotIx d p q) := by
  rw [← slot_place d (k0_off3_eq d) (k0_off3_inb d) squeezes_S1x16x256_S16x256.numel_eq p q]
  exact View.write_emb_of_mem (v := (slotO bM d).view) (Val := Elt F) fd _ (Finset.mem_univ (tileIx p q))

/-- A store to a device's own slot leaves the tile there; -/
theorem store_slot_a (d : Dev nD) (f : S32x16x256.Idx → F .bf16) (w : S1x16x256.Idx → F .bf16) (p : Fin 16) (q : Fin 256) :
    (aM.access (rSlot d)).write (Elt F) f w Finset.univ (slotIx d p q) = w (ValueIdx.ix3 (n0 := 1) (n1 := 16) (n2 := 256) 0 p q) := by
  rw [← slotAcc_place d (k0_off6_eq d) (k0_off6_inb d) p q]
  exact View.write_emb_of_mem (v := aM.access (rSlot d)) (Val := Elt F) f w (Finset.mem_univ _)
theorem store_slot_b (d : Dev nD) (f : S32x16x256.Idx → F .bf16) (w : S1x16x256.Idx → F .bf16) (p : Fin 16) (q : Fin 256) :
    (bM.access (rSlot d)).write (Elt F) f w Finset.univ (slotIx d p q) = w (ValueIdx.ix3 (n0 := 1) (n1 := 16) (n2 := 256) 0 p q) := by
  rw [← slotAcc_place d (k0_off6_eq d) (k0_off6_inb d) p q]
  exact View.write_emb_of_mem (v := bM.access (rSlot d)) (Val := Elt F) f w (Finset.mem_univ _)
/-- a load of a device's own rows reads them. -/
theorem load_rows (d : Dev nD) (f : S512x256.Idx → F .bf16) (p : Fin 16) (q : Fin 256) :
    sM.view.readAt (Elt F) (rRows d).toLoadRect f (tileIx p q) = f (rowIx d p q) := by
  rw [← row_place d (k0_off5_eq d) (k0_off5_inb d) p q]; rfl

/-! ## What a transfer counts -/

/-- The credit of one slab. -/
abbrev N : ℕ := (slotO aM (0 : Dev nD)).view.dmaCredit
theorem N_pos : 0 < N := View.dmaCredit_pos _ (by decide)
theorem credit_slotO_a (d : Dev nD) : (slotO aM d).view.dmaCredit = N := rfl
theorem credit_slotO_b (d : Dev nD) : (slotO bM d).view.dmaCredit = N := rfl
theorem credit_slotP_a (d : Dev nD) (r : Fin 31) : (slotP aM d r).view.dmaCredit = N := rfl
theorem credit_slotP_b (d : Dev nD) (r : Fin 31) : (slotP bM d r).view.dmaCredit = N := rfl
theorem credit_rowsP (d : Dev nD) (r : Fin 31) : (rowsP d r).view.dmaCredit = N := rfl

end Cert.KernelIdeal.AllReduce

end
-- ==== Proof.Protocol.lean ====
/-
The protocol of the exchange.

Device `c` and each peer `p`:

* barrier: `c` signals `p`'s barrier by one, and with it gives `p` the use of slot `p` of both its gather buffers; it
  waits on its own for 31 and has then slot `c` of both gather buffers of every other device.
* first exchange: `c` sends its rows `16 p … 16 p + 15` to slot `c` of `p`'s first gather buffer. The transfer counts on
  `c`'s send semaphore of `p` (array 0: the rows come back) and on `p`'s landing semaphore of `c` (array 1: slot `c`
  there, now at these rows). `c` waits for all 31 landings, then for all 31 sends.
* second exchange: `c` sends its slot of its second gather buffer, which holds its rows of the product, to the same slot
  of `p`'s. All 31 transfers read the one slot, so each has one of 32 parts of the right to it; one part stays. It
  counts on `c`'s send semaphore of `p` (array 2: the part comes back) and on `p`'s landing semaphore of `c` (array 3:
  slot `c` there, at these rows). `c` waits for all 31 landings, then for all 31 sends.

Nobody signals a device's semaphores of its own number in the four arrays. A wait comes before every debt of a higher
rank is paid: send semaphores rank 0, barriers 1, first landings 2, second landings 3.
-/
module

public import proofs.«01_k».proof.Proof.Places
public import Idealize.ShloMosaic.Lib.ShareLeaves
public import Idealize.ShloMosaic.Lib.Rounds

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## Contents -/

/-- Device `c`'s block of the first operand, and its copy of the second. -/
def xblk (c : Dev nD) : S512x256.Idx → F .bf16 := (win0_0.blk (0 : Fin 1)).view.read (Elt F) ((s₀ m ρ).mem ((c : Thread nD τ).loc main_arg0))
def wblk (c : Dev nD) : S256x256.Idx → F .bf16 := (win0_1.blk (0 : Fin 1)).view.read (Elt F) ((s₀ m ρ).mem ((c : Thread nD τ).loc main_arg1))

/-- What device `c` stages, what it has gathered after the first exchange, its rows of the product, what every device has
    gathered after the second, and the result. -/
def staged (c : Dev nD) : S512x256.Idx → F .bf16 := k0_pay1 (xblk m ρ c)
def gather1 (c : Dev nD) : S32x16x256.Idx → F .bf16 := fun i => staged m ρ (i 0) (rowIx c (i 1) (i 2))
def prod (c : Dev nD) : S1x16x256.Idx → F .bf16 := k0_pay4 (gather1 m ρ c) (wblk m ρ c)
def gather2 : S32x16x256.Idx → F .bf16 := fun i => prod m ρ (i 0) (ValueIdx.ix3 (n0 := 1) (n1 := 16) (n2 := 256) 0 (i 1) (i 2))
def result : S512x256.Idx → F .f32 := k0_pay5 (gather2 m ρ)

/-! ## What is held -/

def sPts (c : Dev nD) (S : Finset S512x256.Idx) (f : S512x256.Idx → F .bf16) : sProp 𝕄 :=
  (sM : Memref sig .tc .vmem S512x256 .bf16).view.loc (c : Thread nD τ) ↦[S]{fullShare} f
def aPts (c : Dev nD) (S : Finset S32x16x256.Idx) (f : S32x16x256.Idx → F .bf16) : sProp 𝕄 :=
  (aM : Memref sig .tc .vmem S32x16x256 .bf16).view.loc (c : Thread nD τ) ↦[S]{fullShare} f
def bPts (c : Dev nD) (S : Finset S32x16x256.Idx) (q : PosShare TreeShare) (f : S32x16x256.Idx → F .bf16) : sProp 𝕄 :=
  (bM : Memref sig .tc .vmem S32x16x256 .bf16).view.loc (c : Thread nD τ) ↦[S]{q} f

omit [FloatOps F] in
instance sPts_storable (c : Dev nD) (S) (f) : BI.Storable (upEmb : UEmb _ 𝕄) (sPts (F := F) c S f) := by unfold sPts; infer_instance
omit [FloatOps F] in
instance aPts_storable (c : Dev nD) (S) (f) : BI.Storable (upEmb : UEmb _ 𝕄) (aPts (F := F) c S f) := by unfold aPts; infer_instance
omit [FloatOps F] in
instance bPts_storable (c : Dev nD) (S) (q) (f) : BI.Storable (upEmb : UEmb _ 𝕄) (bPts (F := F) c S q f) := by unfold bPts; infer_instance

/-- The part of the right to a slot that a transfer to `j` reads it by. -/
def partOf (j : Dev nD) : PosShare TreeShare := ShareLeaves.leaf 5 fullShare (Fin.cast (by decide) j)

/-- What a signal from `d` gives `c`: slot `c` of both its gather buffers. -/
def barPay (c d : Dev nD) : sProp 𝕄 := iprop((∃ f, aPts (F := F) d (slotSet c) f) ∗ ∃ f, bPts (F := F) d (slotSet c) fullShare f)

/-- What a landing on semaphore `j` of array `k` gives `c`. -/
def cellPay (c : Dev nD) (j : Dev nD) : Fin 4 → sProp 𝕄
  | 0 => sPts c (rowSet j) (staged m ρ c)
  | 1 => aPts c (slotSet j) (gather1 m ρ c)
  | 2 => bPts c (slotSet c) (partOf j) (gather2 m ρ)
  | 3 => bPts c (slotSet j) fullShare (gather2 m ρ)

instance barPay_storable (c d : Dev nD) : BI.Storable (upEmb : UEmb _ 𝕄) (barPay (F := F) c d) := by unfold barPay; infer_instance
instance cellPay_storable (c j : Dev nD) (k : Fin 4) : BI.Storable (upEmb : UEmb _ 𝕄) (cellPay m ρ c j k) := by
  fin_cases k <;> (dsimp only [cellPay]; infer_instance)

/-! ## The cells -/

abbrev barCell (c : Dev nD) : GSem nD τ sig := ((c : Thread nD τ), .reg barrier0)
abbrev dmaCell (k : Fin 4) (c j : Dev nD) : GSem nD τ sig := ((c : Thread nD τ), .dma (dsem k j))

/-- Which array and which number a semaphore is. -/
def which (q : DmaSem sig) : Option (Fin 4 × Dev nD) :=
  if h : 3 ≤ q.val then some (⟨(q.val - 3) / 32, by have h : q.val < 131 := q.isLt; omega⟩, ⟨(q.val - 3) % 32, Nat.mod_lt _ (by decide)⟩) else none

theorem which_dsem (k : Fin 4) (j : Dev nD) : which (dsem k j) = some (k, j) := by
  have hj : j.val < 32 := j.isLt
  unfold which dsem
  rw [dif_pos (by show 3 ≤ 3 + 32 * k.val + j.val; omega)]
  refine congrArg some (Prod.ext (Fin.ext ?_) (Fin.ext ?_))
  · show (3 + 32 * k.val + j.val - 3) / 32 = k.val; omega
  · show (3 + 32 * k.val + j.val - 3) % 32 = j.val; omega

theorem dsem_inj {k k' : Fin 4} {j j' : Dev nD} (h : dsem k j = dsem k' j') : k = k' ∧ j = j' := by
  have h := congrArg which h
  rw [which_dsem, which_dsem, Option.some.injEq, Prod.mk.injEq] at h
  exact h

/-! ## The schedule -/

def ringRd : Rounds.Schedule (GSem nD τ sig) (Dev nD) 𝕄 where
  duties g r := if r = 0 ∧ g.1.2 = .tc then
      (match g.2 with
        | .reg _ => others g.1.1
        | .dma q => match which q with | some (_, j) => ({j} : Finset (Dev nD)).erase g.1.1 | none => ∅) else ∅
  unitless _ := False
  amount g _ _ := match g.2 with | .reg _ => 1 | .dma _ => N
  payload g _ d := match g.2 with
    | .reg _ => barPay g.1.1 d
    | .dma q => match which q with | some (k, j) => cellPay m ρ g.1.1 j k | none => iprop(emp)
  amount_pos g _ _ _ := by
    rcases g with ⟨c, s | q⟩
    · exact Nat.one_pos
    · exact N_pos

instance ringRd_payload_storable (g : GSem nD τ sig) (r : ℕ) (d : Dev nD) : BI.Storable (upEmb : UEmb _ 𝕄) ((ringRd (F := F) m ρ).payload g r d) := by
  rcases g with ⟨c, s | q⟩
  · show BI.Storable upEmb (barPay c.1 d); infer_instance
  · show BI.Storable upEmb (match which q with | some (k, j) => cellPay m ρ c.1 j k | none => iprop(emp))
    split <;> infer_instance

section Sched
variable (c : Dev nD)

theorem duties_bar : (ringRd (F := F) m ρ).duties (barCell c) 0 = others c := by
  dsimp only [ringRd]; exact if_pos ⟨rfl, rfl⟩
theorem duties_dma (k : Fin 4) (j : Dev nD) : (ringRd (F := F) m ρ).duties (dmaCell k c j) 0 = ({j} : Finset (Dev nD)).erase c := by
  dsimp only [ringRd]; rw [if_pos ⟨rfl, rfl⟩, which_dsem]
theorem duties_peer (k : Fin 4) {j : Dev nD} (h : j ≠ c) : (ringRd (F := F) m ρ).duties (dmaCell k c j) 0 = {j} := by
  rw [duties_dma, Finset.erase_eq_of_notMem]; rw [Finset.mem_singleton]; exact fun h' => h h'.symm
theorem duties_later (g : GSem nD τ sig) : ∀ r, 1 ≤ r → (ringRd (F := F) m ρ).duties g r = ∅ :=
  fun r hr => by dsimp only [ringRd]; exact if_neg fun h => by omega
theorem duties_own (k : Fin 4) : ∀ r, 0 ≤ r → (ringRd (F := F) m ρ).duties (dmaCell k c c) r = ∅ := by
  intro r _
  rcases Nat.eq_zero_or_pos r with rfl | h
  · rw [duties_dma]; ext x; simp
  · exact duties_later m ρ _ r h

theorem amount_bar (u : Dev nD) : (ringRd (F := F) m ρ).amount (barCell c) 0 u = 1 := rfl
theorem amount_dma (k : Fin 4) (j u : Dev nD) : (ringRd (F := F) m ρ).amount (dmaCell k c j) 0 u = N := rfl

theorem expect_bar : (ringRd (F := F) m ρ).expect (barCell c) 0 = 31 := by
  unfold Schedule.expect Schedule.amountOf
  rw [duties_bar, Finset.sum_congr rfl fun u _ => amount_bar m ρ c u, Finset.sum_const, Finset.card_erase_of_mem (Finset.mem_univ _)]
  rfl
theorem expect_dma (k : Fin 4) {j : Dev nD} (h : j ≠ c) : (ringRd (F := F) m ρ).expect (dmaCell k c j) 0 = N := by
  unfold Schedule.expect Schedule.amountOf; rw [duties_peer m ρ c k h, Finset.sum_singleton, amount_dma]

theorem payload_bar (u : Dev nD) : (ringRd (F := F) m ρ).payload (barCell c) 0 u = barPay c u := rfl
theorem payload_dma (k : Fin 4) (j u : Dev nD) : (ringRd (F := F) m ρ).payload (dmaCell k c j) 0 u = cellPay m ρ c j k := by
  dsimp only [ringRd]; rw [which_dsem]

theorem rest_bar : bigSep ((ringRd (F := F) m ρ).duties (barCell c) 0 \ ∅) (fun u => (ringRd (F := F) m ρ).payload (barCell c) 0 u)
    = bigSep (others c) fun d => barPay c d := by
  rw [Finset.sdiff_empty, duties_bar]; rfl
theorem rest_dma (k : Fin 4) {j : Dev nD} (h : j ≠ c) :
    bigSep ((ringRd (F := F) m ρ).duties (dmaCell k c j) 0 \ ∅) (fun u => (ringRd (F := F) m ρ).payload (dmaCell k c j) 0 u) = cellPay m ρ c j k := by
  rw [Finset.sdiff_empty, duties_peer m ρ c k h, bigSep_singleton, payload_dma]

end Sched

/-! ## Debts and ranks -/

/-- What `c` owes the peers at the offsets of a list: one unit on each barrier; a slab's credit on its landing semaphore in
    array `k` at each. -/
def owB (c : Dev nD) (l : List (Fin 31)) : CellTallies nD τ sig Unit := (l.map fun r => tallyAt (barCell (peer c r)) () 1).sum
def owD (k : Fin 4) (c : Dev nD) (l : List (Fin 31)) : CellTallies nD τ sig Unit := (l.map fun r => tallyAt (dmaCell k (peer c r) c) () N).sum

def O₀ (c : Dev nD) : CellTallies nD τ sig Unit := owB c all31 + (owD 1 c all31 + owD 3 c all31)

def L (g : GSem nD τ sig) : Finset Unit := if g.1.2 = .tc then {()} else ∅
def lv (g : GSem nD τ sig) (_ : Unit) : ℕ := match g.2 with
  | .reg _ => 1
  | .dma q => match which q with | some (1, _) => 2 | some (3, _) => 3 | _ => 0
theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_dma (k : Fin 4) (c j : Dev nD) : lv (dmaCell k c j) () = (match k with | 1 => 2 | 3 => 3 | _ => 0) := by
  dsimp only [lv]; rw [which_dsem]; fin_cases k <;> rfl

theorem owed_pos {cell : Fin 31 → GSem nD τ sig} {n : ℕ} {g : GSem nD τ sig} {u : Unit} :
    ∀ {l : List (Fin 31)}, 0 < (l.map fun r => (tallyAt (cell r) () n : CellTallies nD τ sig Unit)).sum g u → ∃ r, g = cell r
  | [], h => absurd h (Nat.lt_irrefl 0)
  | r :: l, h => by
    rw [List.map_cons, List.sum_cons, Pi.add_apply, Finsupp.add_apply] at h
    by_cases hr : g = cell r
    · exact ⟨r, hr⟩
    · rw [tallyAt_apply, if_neg (fun h' => hr h'.1), Nat.zero_add] at h
      exact owed_pos h

/-- The debts are all on cells of TensorCores, of rank above the cut. -/
def Above (b : ℕ) (O : CellTallies nD τ sig Unit) : Prop := ∀ g u, 0 < O g u → g.1.2 = .tc ∧ b < lv g u

theorem above_owD {b : ℕ} (k : Fin 4) (c : Dev nD) (l : List (Fin 31)) (h : ∀ c j, b < lv (dmaCell k c j) ()) : Above b (owD k c l) := by
  intro g u hg
  obtain ⟨r, rfl⟩ := owed_pos hg
  exact ⟨rfl, h _ _⟩
theorem above_owB {b : ℕ} (c : Dev nD) (l : List (Fin 31)) (h : b < 1) : Above b (owB c l) := by
  intro g u hg
  obtain ⟨r, rfl⟩ := owed_pos hg
  exact ⟨rfl, h⟩
theorem above_add {b : ℕ} {O O' : CellTallies nD τ sig Unit} (h : Above b O) (h' : Above b O') : Above b (O + O') := by
  intro g u hg
  rw [Pi.add_apply, Finsupp.add_apply] at hg
  rcases Nat.eq_zero_or_pos (O g u) with h0 | h0
  · exact h' g u (by omega)
  · exact h g u h0
theorem above_zero {b : ℕ} : Above b 0 := fun g u h => absurd h (Nat.lt_irrefl 0)

theorem above_13 {b : ℕ} (hb : b < 2) (c : Dev nD) (l : List (Fin 31)) : Above b (owD 1 c l + owD 3 c all31) :=
  above_add (above_owD 1 c l fun c j => by rw [lv_dma]; exact hb) (above_owD 3 c _ fun c j => by rw [lv_dma]; show b < 3; omega)
theorem above_3 {b : ℕ} (hb : b < 3) (c : Dev nD) (l : List (Fin 31)) : Above b (owD 3 c l) :=
  above_owD 3 c _ fun c j => by rw [lv_dma]; exact hb
theorem above_all (c : Dev nD) : Above 0 (O₀ c) := above_add (above_owB c _ Nat.one_pos) (above_13 (by omega) c _)

/-- A wait of rank at most the cut may come before these debts are paid. -/
theorem mayWait_of (c : Dev nD) (sm : SemLoc sig) (b : ℕ) {O : CellTallies nD τ sig Unit} (hsm : lv ((c : Thread nD τ), sm) () ≤ b) (hO : Above b O) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

end Cert.KernelIdeal.AllReduce

end
-- ==== Proof.Steps.lean ====
/-
The loops of the body: a step at one peer, and from it all 31 in order.
-/
module

public import proofs.«01_k».proof.Proof.Protocol

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The cells of a device, by index -/

abbrev Cell : Type := Option (Fin 4 × Dev nD)
abbrev csem : Cell → SemLoc sig
  | none => .reg barrier0
  | some kj => .dma (dsem kj.1 kj.2)
abbrev kcell (x : Dev nD × Cell) : GSem nD τ sig := ((x.1 : Thread nD τ), csem x.2)

/-- Every cell of every device is in use, from round 0. -/
def recs (K : Dev nD × Cell → ℕ) : sProp 𝕄 :=
  bigSep Finset.univ fun x => iprop(cellInv ER (ringRd m ρ) (K x) (kcell x) ∗ reached ER (kcell x) 0)

instance recs_persistent (K : Dev nD × Cell → ℕ) : BI.Persistent (recs m ρ K) := by unfold recs; infer_instance

theorem recs_at (K : Dev nD × Cell → ℕ) (x : Dev nD × Cell) :
    recs m ρ K ⊢ iprop(cellInv ER (ringRd m ρ) (K x) (kcell x) ∗ reached ER (kcell x) 0) := by
  unfold recs; exact bigSep_elim (Finset.mem_univ x)

/-- What runs through every step: the records, the ranks, and the debts. -/
def St (K : Dev nD × Cell → ℕ) (c : Dev nD) (O : CellTallies nD τ sig Unit) : sProp 𝕄 :=
  iprop(recs m ρ K ∗ levAts L lv ∗ ∃ W, owes (c : Thread nD τ) O W)

abbrev WP {α : Type} (c : Dev nD) (k : Prog (Eff (F := F)) α) (Q : α → sProp 𝕄) : sProp 𝕄 :=
  wp frame (wpE (defs₀ (F := F)) 𝒱₀ (c : Thread nD τ) none) Set.univ k Q

section Loop

variable {α : Type} {c : Dev nD}

omit [FloatOps F] in
theorem bigSep_cons {I : Type} [DecidableEq I] {s : Finset I} {i : I} (h : i ∉ s) (Φ : I → sProp 𝕄) :
    bigSep (insert i s) Φ = iprop(Φ i ∗ bigSep s Φ) := bigSep_insert h

/-- A loop from its step: each offset uses up its own part and leaves another, and carries a state. -/
theorem wp_loop {Q : α → sProp 𝕄} (f : Fin 31 → Eff (F := F) PUnit) (Φ Ψ : Fin 31 → sProp 𝕄) (S : List (Fin 31) → sProp 𝕄)
    (step : ∀ r l (k : PUnit → Prog (Eff (F := F)) α), iprop(Φ r ∗ S (r :: l)) ⊢ iprop((iprop(Ψ r ∗ S l) -∗ WP c (k ⟨⟩) Q) -∗ WP c (.op (f r) k) Q)) :
    ∀ l : List (Fin 31), l.Nodup → ∀ k : Prog (Eff (F := F)) α,
      iprop(bigSep l.toFinset Φ ∗ S l) ⊢ iprop((iprop(bigSep l.toFinset Ψ ∗ S []) -∗ WP c k Q) -∗ WP c (loop f l k) Q)
  | [], _, k => by
    rw [List.toFinset_nil, bigSep_empty, bigSep_empty]
    iintro ⟨He, HS⟩ Hk
    iapply Hk
    isplitl [He] <;> iassumption
  | r :: l, hn, k => by
    have hr : r ∉ l.toFinset := fun h => (List.nodup_cons.mp hn).1 (List.mem_toFinset.mp h)
    rw [List.toFinset_cons, bigSep_cons hr, bigSep_cons hr]
    iintro ⟨⟨Hr, Hl⟩, HS⟩ Hk
    iapply (step r l fun _ => loop f l k) $$ [Hr HS]
    · isplitl [Hr] <;> iassumption
    iintro ⟨Hr, HS⟩
    iapply (wp_loop f Φ Ψ S step l (List.nodup_cons.mp hn).2 k) $$ [Hl HS]
    · isplitl [Hl] <;> iassumption
    iintro ⟨Hl, HS⟩
    iapply Hk
    isplitl [Hr Hl]
    · isplitl [Hr] <;> iassumption
    iexact HS

omit [FloatOps F] in
/-- Something at every other device is something at every offset. -/
theorem others_eq (c : Dev nD) (Φ : Dev nD → sProp 𝕄) : bigSep (others c) Φ = bigSep all31.toFinset fun r => Φ (peer c r) := by
  rw [← map_peer c, bigSep_map, Finset.eq_univ_iff_forall.mpr fun r => List.mem_toFinset.mpr (all31_univ r)]; rfl

theorem wp_all {Q : α → sProp 𝕄} (f : Fin 31 → Eff (F := F) PUnit) (Φ Ψ : Dev nD → sProp 𝕄) (S : List (Fin 31) → sProp 𝕄)
    (step : ∀ r l (k : PUnit → Prog (Eff (F := F)) α),
      iprop(Φ (peer c r) ∗ S (r :: l)) ⊢ iprop((iprop(Ψ (peer c r) ∗ S l) -∗ WP c (k ⟨⟩) Q) -∗ WP c (.op (f r) k) Q))
    (k : Prog (Eff (F := F)) α) :
    iprop(bigSep (others c) Φ ∗ S all31) ⊢ iprop((iprop(bigSep (others c) Ψ ∗ S []) -∗ WP c k Q) -∗ WP c (loop f all31 k) Q) := by
  rw [others_eq, others_eq]
  exact wp_loop f (fun r => Φ (peer c r)) (fun r => Ψ (peer c r)) S step all31 all31_nodup k

end Loop

/-! ## The steps -/

theorem owB_cons (c : Dev nD) (r : Fin 31) (l : List (Fin 31)) (O : CellTallies nD τ sig Unit) :
    owB c (r :: l) + O = (owB c l + O) + tallyAt (barCell (peer c r)) () 1 := by
  unfold owB; rw [List.map_cons, List.sum_cons, add_assoc, add_comm]
theorem owD_cons (k : Fin 4) (c : Dev nD) (r : Fin 31) (l : List (Fin 31)) (O : CellTallies nD τ sig Unit) :
    owD k c (r :: l) + O = (owD k c l + O) + tallyAt (dmaCell k (peer c r) c) () N := by
  unfold owD; rw [List.map_cons, List.sum_cons, add_assoc, add_comm]

section Steps

variable (K : Dev nD × Cell → ℕ) {α : Type} (c : Dev nD)

/-- A signal gives the peer its slots of this device's two gather buffers. -/
theorem sig_step {Q : α → sProp 𝕄} (O : CellTallies nD τ sig Unit) (r : Fin 31) (l : List (Fin 31)) (k : PUnit → Prog (Eff (F := F)) α) :
    iprop((dutyTok ER (barCell (peer c r)) 0 c ∗ barPay (peer c r) c) ∗ St m ρ K c (owB c (r :: l) + O))
      ⊢ iprop((iprop(emp ∗ St m ρ K c (owB c l + O)) -∗ WP c (k ⟨⟩) Q) -∗ WP c (.op (sigS c r) k) Q) := by
  unfold St sigS
  rw [dv_eq]
  iintro ⟨⟨Ht, Hp⟩, #HR, #Hlev, ⟨%W, HO⟩⟩ Hk
  ihave #Hc := (recs_at m ρ K (peer c r, none)) $$ HR
  icases Hc with ⟨#Hi, #Hr⟩
  iapply (Rounds.wp_signal 𝒱₀ ER (ringRd m ρ) (c : Thread nD τ) none (dst := (peer c r : Thread nD τ)) (κ := K (peer c r, none))
      (d := c) (r := 0) (by rw [duties_bar]; exact Finset.mem_erase.mpr ⟨(peer_ne c r).symm, Finset.mem_univ _⟩)
      ((amount_bar m ρ (peer c r) c).trans (by decide)) ()
      (O₀ := owB c (r :: l) + O) (owB c l + O) (owB_cons c r l O) (W := W)) $$ [HO Ht Hp]
  · isplitr; · iexact Hi
    isplitl [HO]; · iexact HO
    isplitl [Ht]; · iexact Ht
    isplitl [Hp]; · rw [payload_bar]; iexact Hp
    iexact Hr
  iintro HO
  iapply Hk
  isplitr; · iempintro
  isplitr; · iexact HR
  isplitr; · iexact Hlev
  iexists W; iexact HO

/-- A transfer of a slab to a peer, counted on array `kS` here and on array `kL` there, over any spelling of the peer and of
    the two semaphores. -/
theorem send_step {Q : α → sProp 𝕄} (kS kL : Fin 4) (r : Fin 31) (src dst : Memref sig .tc .vmem S16x256 .bf16)
    (n : Dev nD) (hn : n = peer c r) (q₁ q₂ : DmaSem sig) (h₁ : q₁ = dsem kS (peer c r)) (h₂ : q₂ = dsem kL c)
    {hsc : dst.view.ref.isScScratch = false} {hsrc : src.view.WordExact} {hdst : dst.view.WordExact}
    {hsem : DmaTarget.Typed .vmem (.dma q₂) (.remote (Dev.tc n : Thread nD τ) dst (.dma q₁) hsc)}
    (k : PUnit → Prog (Eff (F := F)) α) (q : PosShare TreeShare) (fs : Buf (Elt F) (src.view.loc (c : Thread nD τ)))
    (fd : Buf (Elt F) (dst.view.loc (peer c r : Thread nD τ))) (O₀ O : CellTallies nD τ sig Unit)
    (hO : O₀ = O + tallyAt (dmaCell kL (peer c r) c) () N) (hN : dst.view.dmaCredit = N)
    (hp₁ : (src.view.loc (c : Thread nD τ) ↦[src.view.set]{q} fs) ⊢ cellPay m ρ c (peer c r) kS)
    (hp₂ : (dst.view.loc (peer c r : Thread nD τ) ↦[dst.view.set]{fullShare} (dst.view.write (Elt F) fd (src.view.read (Elt F) fs) Finset.univ))
      ⊢ cellPay m ρ (peer c r) c kL) :
    iprop((dutyTok ER (dmaCell kS c (peer c r)) 0 (peer c r) ∗ dutyTok ER (dmaCell kL (peer c r) c) 0 c)
        ∗ (src.view.loc (c : Thread nD τ) ↦[src.view.set]{q} fs) ∗ (dst.view.loc (peer c r : Thread nD τ) ↦[dst.view.set]{fullShare} fd)
        ∗ St m ρ K c O₀)
      ⊢ iprop((iprop(cred (tallyAt (dmaCell kS c (peer c r)) () N) ∗ St m ρ K c O) -∗ WP c (k ⟨⟩) Q)
          -∗ WP c (.op (.enqueueDma src (.remote (Dev.tc n : Thread nD τ) dst (.dma q₁) hsc) (.dma q₂) hsrc hdst hsem) k) Q) := by
  subst hn h₁ h₂
  unfold St
  iintro ⟨⟨Ht, Hu⟩, Hs, Hd, #HR, #Hlev, ⟨%W, HO⟩⟩ Hk
  ihave #Hc := (recs_at m ρ K (c, some (kS, peer c r))) $$ HR
  icases Hc with ⟨#Hi, #Hr⟩
  ihave #Hc' := (recs_at m ρ K (peer c r, some (kL, c))) $$ HR
  icases Hc' with ⟨#Hi', #Hr'⟩
  iapply (Rounds.wp_send_pointsTo (Val := Elt F) (defs := defs₀) (Γ := PendingWaitsCtx.empty) 𝒱₀ ER (ringRd m ρ) (c : Thread nD τ) none
    (κ₁ := K (c, some (kS, peer c r))) (κ₂ := K (peer c r, some (kL, c)))
    (c' := (peer c r : Thread nD τ)) (src := src) (dst := dst) (hsc := hsc) (hsrc := hsrc) (hdst := hdst) (hsem := hsem)
    (r₁ := 0) (r₂ := 0) (d₁ := peer c r) (d₂ := c) (fd := fd) (fs := fs) (q := q)
    (by rw [duties_peer m ρ c kS (peer_ne c r)]; exact Finset.mem_singleton_self _)
    (by rw [duties_peer m ρ (peer c r) kL (peer_ne c r).symm]; exact Finset.mem_singleton_self _)
    () () N hN rfl rfl O hO (W := W) (hp₁.trans (Entails.of_eq (payload_dma m ρ c kS _ _).symm)) (hp₂.trans (Entails.of_eq (payload_dma m ρ _ kL _ _).symm))
    (Es := Set.univ) (Q := Q) (k := k)) $$ [Ht Hu Hs Hd HO]
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Hu]; · iexact Hu
    iexact Hr'
  iintro ⟨Hcr, HO⟩
  iapply Hk
  isplitl [Hcr]; · iexact Hcr
  isplitr; · iexact HR
  isplitr; · iexact Hlev
  iexists W; iexact HO

/-- The first transfer sends the peer its rows. -/
theorem snd1_step {Q : α → sProp 𝕄} (O : CellTallies nD τ sig Unit) (r : Fin 31) (l : List (Fin 31)) (k : PUnit → Prog (Eff (F := F)) α) :
    iprop(((dutyTok ER (dmaCell 0 c (peer c r)) 0 (peer c r) ∗ dutyTok ER (dmaCell 1 (peer c r) c) 0 c)
          ∗ sPts c (rowSet (peer c r)) (staged m ρ c) ∗ ∃ f, aPts (peer c r) (slotSet c) f) ∗ St m ρ K c (owD 1 c (r :: l) + O))
      ⊢ iprop((iprop(cred (tallyAt (dmaCell 0 c (peer c r)) () N) ∗ St m ρ K c (owD 1 c l + O)) -∗ WP c (k ⟨⟩) Q) -∗ WP c (.op (snd1 c r) k) Q) := by
  iintro ⟨⟨Ht, Hs, ⟨%fd, Hd⟩⟩, HS⟩ Hk
  iapply (send_step m ρ K c 0 1 r (rowsP c r) (slotO aM c) _ (dv_eq c r) _ _
    ((semP_at cc0_scratch3 c r).trans (semAt_dsem _).1) ((semO_at cc0_scratch4 c).trans (semAt_dsem _).2.1) k fullShare (staged m ρ c) fd _ _
    (owD_cons 1 c r l O) rfl
    (by rw [rowsP_set]; exact BI.Entails.refl _)
    (by
      rw [slotO_set_a]
      refine Entails.of_eq (pointsTo_congr fun i hi => ?_)
      obtain ⟨p, q, rfl⟩ := slot_exists i hi
      exact send1_leaves c r fd _ p q)) $$ [Ht Hs Hd HS]
  · rw [rowsP_set, slotO_set_a]
    unfold sPts aPts
    isplitl [Ht]; · iexact Ht
    isplitl [Hs]; · iexact Hs
    isplitl [Hd]; · iexact Hd
    iexact HS
  iexact Hk

/-- The second transfer sends the peer this device's rows of the product. -/
theorem snd2_step {Q : α → sProp 𝕄} (O : CellTallies nD τ sig Unit) (r : Fin 31) (l : List (Fin 31)) (k : PUnit → Prog (Eff (F := F)) α) :
    iprop(((dutyTok ER (dmaCell 2 c (peer c r)) 0 (peer c r) ∗ dutyTok ER (dmaCell 3 (peer c r) c) 0 c)
          ∗ bPts c (slotSet c) (partOf (peer c r)) (gather2 m ρ) ∗ ∃ f, bPts (peer c r) (slotSet c) fullShare f) ∗ St m ρ K c (owD 3 c (r :: l) + O))
      ⊢ iprop((iprop(cred (tallyAt (dmaCell 2 c (peer c r)) () N) ∗ St m ρ K c (owD 3 c l + O)) -∗ WP c (k ⟨⟩) Q) -∗ WP c (.op (snd2 c r) k) Q) := by
  iintro ⟨⟨Ht, Hs, ⟨%fd, Hd⟩⟩, HS⟩ Hk
  iapply (send_step m ρ K c 2 3 r (slotO bM c) (slotO bM c) _ (dv_eq c r) _ _
    ((semP_at cc0_scratch5 c r).trans (semAt_dsem _).2.2.1) ((semO_at cc0_scratch6 c).trans (semAt_dsem _).2.2.2) k (partOf (peer c r)) (gather2 m ρ) fd _ _
    (owD_cons 3 c r l O) rfl
    (by rw [slotO_set_b]; exact BI.Entails.refl _)
    (by
      rw [slotO_set_b]
      refine Entails.of_eq (pointsTo_congr fun i hi => ?_)
      obtain ⟨p, q, rfl⟩ := slot_exists i hi
      exact send2_leaves c fd _ p q)) $$ [Ht Hs Hd HS]
  · rw [slotO_set_b]
    unfold bPts
    isplitl [Ht]; · iexact Ht
    isplitl [Hs]; · iexact Hs
    isplitl [Hd]; · iexact Hd
    iexact HS
  iexact Hk

/-- A wait on semaphore of a peer in array `j` takes what the landing there gives. -/
theorem wait_step {Q : α → sProp 𝕄} (j : Fin 4) (r : Fin 31) (b : ℕ) (hb : lv (dmaCell j c (peer c r)) () ≤ b) (O : CellTallies nD τ sig Unit) (hO : Above b O)
    (q : DmaSem sig) (hq : q = dsem j (peer c r)) (src dst : Memref sig .tc .vmem S16x256 .bf16) (hN : dst.view.dmaCredit = N)
    {hsrc : src.view.WordExact} {hdst : dst.view.WordExact} (k : PUnit → Prog (Eff (F := F)) α) :
    iprop((cred (tallyAt (dmaCell j c (peer c r)) () N) ∗ atPos ER (dmaCell j c (peer c r)) 0 ∅ 0) ∗ St m ρ K c O)
      ⊢ iprop((iprop((atPos ER (dmaCell j c (peer c r)) 1 ∅ 0 ∗ cellPay m ρ c (peer c r) j) ∗ St m ρ K c O) -∗ WP c (k ⟨⟩) Q)
          -∗ WP c (.op (.waitDma2 q src dst hsrc hdst) k) Q) := by
  subst hq
  unfold St
  iintro ⟨⟨Hc, Hat⟩, #HR, #Hlev, ⟨%W, HO⟩⟩ Hk
  ihave #Hc' := (recs_at m ρ K (c, some (j, peer c r))) $$ HR
  icases Hc' with ⟨#Hi, -⟩
  iapply (Rounds.wp_wait_rest_token 𝒱₀ ER (ringRd m ρ) (c : Thread nD τ) none (κ := K (c, some (j, peer c r)))
      (wpE_waitDma2_eq 𝒱₀ (c : Thread nD τ) none Set.univ) (Set.mem_univ _) () (O := O) (W := W) (R := 0) (m := 0) (T := ∅)
      (by rw [Nat.zero_add, expect_dma m ρ c j (peer_ne c r)])) $$ [Hc HO Hat]
  · isplitr; · iexact Hi
    isplitl [Hc]; · rw [hN]; iexact Hc
    isplitl [HO]; · iexact HO
    isplitr; · iapply (mayWait_of c _ b hb hO); iexact Hlev
    iexact Hat
  iintro ⟨HO, Hat, -, Hpay⟩
  ihave Hp := (Entails.of_eq (rest_dma m ρ c j (peer_ne c r))) $$ Hpay
  iapply Hk
  isplitl [Hat Hp]
  · isplitl [Hat]; · iexact Hat
    iexact Hp
  isplitr; · iexact HR
  isplitr; · iexact Hlev
  iexists _; iexact HO

theorem lv_le (j : Fin 4) (p : Dev nD) (b : ℕ) (h : (match j with | 1 => 2 | 3 => 3 | _ => 0) ≤ b) : lv (dmaCell j c p) () ≤ b := by rw [lv_dma]; exact h

theorem rcv1_step {Q : α → sProp 𝕄} (O : CellTallies nD τ sig Unit) (hO : Above 2 O) (r : Fin 31) (k : PUnit → Prog (Eff (F := F)) α) :
    iprop((cred (tallyAt (dmaCell 1 c (peer c r)) () N) ∗ atPos ER (dmaCell 1 c (peer c r)) 0 ∅ 0) ∗ St m ρ K c O)
      ⊢ iprop((iprop((atPos ER (dmaCell 1 c (peer c r)) 1 ∅ 0 ∗ aPts c (slotSet (peer c r)) (gather1 m ρ c)) ∗ St m ρ K c O) -∗ WP c (k ⟨⟩) Q)
          -∗ WP c (.op (rcv1 c r) k) Q) := by
  unfold rcv1
  exact wait_step m ρ K c 1 r 2 (lv_le c 1 _ 2 (by decide)) O hO _ ((semP_at cc0_scratch4 c r).trans (semAt_dsem _).2.1) rows0 (slotP aM c r) (credit_slotP_a c r) k
theorem fin1_step {Q : α → sProp 𝕄} (O : CellTallies nD τ sig Unit) (hO : Above 0 O) (r : Fin 31) (k : PUnit → Prog (Eff (F := F)) α) :
    iprop((cred (tallyAt (dmaCell 0 c (peer c r)) () N) ∗ atPos ER (dmaCell 0 c (peer c r)) 0 ∅ 0) ∗ St m ρ K c O)
      ⊢ iprop((iprop((atPos ER (dmaCell 0 c (peer c r)) 1 ∅ 0 ∗ sPts c (rowSet (peer c r)) (staged m ρ c)) ∗ St m ρ K c O) -∗ WP c (k ⟨⟩) Q)
          -∗ WP c (.op (fin1 c r) k) Q) := by
  unfold fin1
  exact wait_step m ρ K c 0 r 0 (lv_le c 0 _ 0 (by decide)) O hO _ ((semP_at cc0_scratch3 c r).trans (semAt_dsem _).1) (slotO aM c) (rowsP c r) (credit_rowsP c r) k
theorem rcv2_step {Q : α → sProp 𝕄} (O : CellTallies nD τ sig Unit) (hO : Above 3 O) (r : Fin 31) (k : PUnit → Prog (Eff (F := F)) α) :
    iprop((cred (tallyAt (dmaCell 3 c (peer c r)) () N) ∗ atPos ER (dmaCell 3 c (peer c r)) 0 ∅ 0) ∗ St m ρ K c O)
      ⊢ iprop((iprop((atPos ER (dmaCell 3 c (peer c r)) 1 ∅ 0 ∗ bPts c (slotSet (peer c r)) fullShare (gather2 m ρ)) ∗ St m ρ K c O) -∗ WP c (k ⟨⟩) Q)
          -∗ WP c (.op (rcv2 c r) k) Q) := by
  unfold rcv2
  exact wait_step m ρ K c 3 r 3 (lv_le c 3 _ 3 (by decide)) O hO _ ((semP_at cc0_scratch6 c r).trans (semAt_dsem _).2.2.2) (slot0 bM) (slotP bM c r) (credit_slotP_b c r) k
theorem fin2_step {Q : α → sProp 𝕄} (O : CellTallies nD τ sig Unit) (hO : Above 0 O) (r : Fin 31) (k : PUnit → Prog (Eff (F := F)) α) :
    iprop((cred (tallyAt (dmaCell 2 c (peer c r)) () N) ∗ atPos ER (dmaCell 2 c (peer c r)) 0 ∅ 0) ∗ St m ρ K c O)
      ⊢ iprop((iprop((atPos ER (dmaCell 2 c (peer c r)) 1 ∅ 0 ∗ bPts c (slotSet c) (partOf (peer c r)) (gather2 m ρ)) ∗ St m ρ K c O) -∗ WP c (k ⟨⟩) Q)
          -∗ WP c (.op (fin2 c r) k) Q) := by
  unfold fin2
  exact wait_step m ρ K c 2 r 0 (lv_le c 2 _ 0 (by decide)) O hO _ ((semP_at cc0_scratch5 c r).trans (semAt_dsem _).2.2.1) (slotO bM c) (slotO bM c) (credit_slotO_b c) k

/-- The wait on the own barrier: every other device has given its slots. -/
theorem bar_step {Q : α → sProp 𝕄} (O : CellTallies nD τ sig Unit) (hO : Above 1 O) (k : PUnit → Prog (Eff (F := F)) α) :
    iprop((cred (tallyAt (barCell c) () 31) ∗ atPos ER (barCell c) 0 ∅ 0) ∗ St m ρ K c O)
      ⊢ iprop((iprop((atPos ER (barCell c) 1 ∅ 0 ∗ bigSep (others c) fun p => barPay (F := F) c p) ∗ St m ρ K c O) -∗ WP c (k ⟨⟩) Q)
          -∗ WP c (.op (.semWait barrier0 (31#32 : BitVec 32).toInt) k) Q) := by
  unfold St
  iintro ⟨⟨Hc, Hat⟩, #HR, #Hlev, ⟨%W, HO⟩⟩ Hk
  ihave #Hc' := (recs_at m ρ K (c, none)) $$ HR
  icases Hc' with ⟨#Hi, -⟩
  iapply (Rounds.wp_wait_rest_token 𝒱₀ ER (ringRd m ρ) (c : Thread nD τ) none (κ := K (c, none))
      (wpE_semWait_eq 𝒱₀ (c : Thread nD τ) none Set.univ) (Set.mem_univ _) () (O := O) (W := W) (R := 0) (m := 0) (T := ∅)
      (by rw [expect_bar]; decide)) $$ [Hc HO Hat]
  · isplitr; · iexact Hi
    isplitl [Hc]; · iexact Hc
    isplitl [HO]; · iexact HO
    isplitr; · iapply (mayWait_of c (.reg barrier0) 1 (Nat.le_refl 1) hO); iexact Hlev
    iexact Hat
  iintro ⟨HO, Hat, -, Hpay⟩
  ihave Hp := (Entails.of_eq (rest_bar m ρ c)) $$ Hpay
  iapply Hk
  isplitl [Hat Hp]
  · isplitl [Hat]; · iexact Hat
    iexact Hp
  isplitr; · iexact HR
  isplitr; · iexact Hlev
  iexists _; iexact HO

end Steps

end Cert.KernelIdeal.AllReduce

end
-- ==== Proof.Body.lean ====
/-
The body of a device, from what it holds at the start to what it leaves.
-/
module

public import proofs.«01_k».proof.Proof.Steps
public import Idealize.ShloMosaic.Lib.Ring

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Whole buffers and their parts -/

omit [FloatOps F] in
theorem sep_right (P Q R : sProp 𝕄) : iprop(P ∗ Q ∗ R) = iprop((P ∗ Q) ∗ R) := by
  have h₁ : iprop(P ∗ Q ∗ R) ⊢ iprop((P ∗ Q) ∗ R) := by
    iintro ⟨HP, HQ, HR⟩
    isplitr [HR]
    · isplitl [HP] <;> iassumption
    iexact HR
  have h₂ : iprop((P ∗ Q) ∗ R) ⊢ iprop(P ∗ Q ∗ R) := by
    iintro ⟨⟨HP, HQ⟩, HR⟩
    isplitl [HP]; · iexact HP
    isplitl [HQ] <;> iassumption
  exact BI.Entails.antisymm h₁ h₂
omit [FloatOps F] in
theorem bigSep_three {I : Type} (s : Finset I) (A B C : I → sProp 𝕄) :
    bigSep s (fun i => iprop(A i ∗ B i ∗ C i)) = iprop(bigSep s A ∗ bigSep s B ∗ bigSep s C) := by rw [bigSep_sep', bigSep_sep']

omit [FloatOps F] in
/-- A buffer held in blocks, one block per device, one of them named. -/
theorem blocks_at (ℓ : Loc nD τ sig) (I : Dev nD → Finset (Idx ℓ)) (hd : ∀ b b', b ≠ b' → Disjoint (I b) (I b')) (hc : Finset.univ.biUnion I = Finset.univ)
    (q : PosShare TreeShare) (f : Buf (Elt F) ℓ) (c : Dev nD) :
    (ℓ ↦{q} f : sProp 𝕄) = iprop((ℓ ↦[I c]{q} f) ∗ bigSep (others c) fun j => ℓ ↦[I j]{q} f) :=
  (Ring.pointsTo_blocks (ℓ := ℓ) I hd hc f).trans (bigSep_univ_at _ c)
omit [FloatOps F] in
/-- A points-to in 32 parts of its share, one of them named. -/
theorem parts_at (ℓ : Loc nD τ sig) (S : Finset (Idx ℓ)) (f : Buf (Elt F) ℓ) (d : Dev nD) :
    (ℓ ↦[S]{fullShare} f : sProp 𝕄) = iprop((ℓ ↦[S]{partOf d} f) ∗ bigSep (others d) fun j => ℓ ↦[S]{partOf j} f) := by
  rw [ShareLeaves.pointsTo_leaves (ℓ := ℓ) S f 5 fullShare,
    bigSep_univ_equiv (finCongr (by decide : nD = 2 ^ 5)) (fun i => (ℓ ↦[S]{ShareLeaves.leaf 5 fullShare i} f : sProp 𝕄))]
  exact bigSep_univ_at (fun j => (ℓ ↦[S]{partOf j} f : sProp 𝕄)) d

omit [FloatOps F] in
theorem sPts_rows (c : Dev nD) (f : S512x256.Idx → F .bf16) :
    sPts c Finset.univ f = iprop(sPts c (rowSet c) f ∗ bigSep (others c) fun j => sPts c (rowSet j) f) :=
  (blocks_at ((c : Thread nD τ).loc cc0_scratch0) rowSet rowSet_disjoint rowSet_cover fullShare f c)
omit [FloatOps F] in
theorem aPts_slots (c : Dev nD) (f : S32x16x256.Idx → F .bf16) :
    aPts c Finset.univ f = iprop(aPts c (slotSet c) f ∗ bigSep (others c) fun j => aPts c (slotSet j) f) :=
  (blocks_at ((c : Thread nD τ).loc cc0_scratch1) slotSet slotSet_disjoint slotSet_cover fullShare f c)
omit [FloatOps F] in
theorem bPts_slots (c : Dev nD) (q : PosShare TreeShare) (f : S32x16x256.Idx → F .bf16) :
    bPts c Finset.univ q f = iprop(bPts c (slotSet c) q f ∗ bigSep (others c) fun j => bPts c (slotSet j) q f) :=
  (blocks_at ((c : Thread nD τ).loc cc0_scratch2) slotSet slotSet_disjoint slotSet_cover q f c)

omit [FloatOps F] in
theorem bPts_parts (c d : Dev nD) (S : Finset S32x16x256.Idx) (f : S32x16x256.Idx → F .bf16) :
    bPts c S fullShare f = iprop(bPts c S (partOf d) f ∗ bigSep (others d) fun j => bPts c S (partOf j) f) :=
  parts_at ((c : Thread nD τ).loc cc0_scratch2) S f d

omit [FloatOps F] in
/-- A part of a slot's right, taken from every other slot held fully, with the same part of the own slot makes that part of
    the whole buffer's; -/
theorem part_gather (c : Dev nD) (f : S32x16x256.Idx → F .bf16) :
    iprop(bPts c (slotSet c) (partOf c) f ∗ bigSep (others c) fun p => bPts c (slotSet p) fullShare f)
      = iprop(bPts c Finset.univ (partOf c) f ∗ bigSep (others c) fun p => bigSep (others c) fun j => bPts c (slotSet p) (partOf j) f) := by
  rw [bPts_slots c (partOf c) f, bigSep_congr fun p _ => bPts_parts c c (slotSet p) f, bigSep_sep']
  exact sep_right _ _ _

/-! ## What loads read and stores leave -/

theorem hz2 : (![0, 0] : Fin 2 → Nat) = fun _ => 0 := funext fun a => by fin_cases a <;> rfl
theorem hz3 : (![0, 0, 0] : Fin 3 → Nat) = fun _ => 0 := funext fun a => by fin_cases a <;> rfl

omit [FloatOps F] in
theorem read_t (f : S512x256.Idx → F .bf16) : tM.view.readAt (Elt F) rS.toLoadRect f = f := Memref.readAt_unit_zero (Elt F) cc0_stg0_0 hz2 _ f
omit [FloatOps F] in
theorem read_w (f : S256x256.Idx → F .bf16) : wM.view.readAt (Elt F) rW.toLoadRect f = f := Memref.readAt_unit_zero (Elt F) cc0_stg1_0 hz2 _ f
omit [FloatOps F] in
theorem read_a (f : S32x16x256.Idx → F .bf16) : aM.view.readAt (Elt F) rG.toLoadRect f = f := Memref.readAt_unit_zero (Elt F) cc0_scratch1 hz3 _ f
omit [FloatOps F] in
theorem read_b (f : S32x16x256.Idx → F .bf16) : bM.view.readAt (Elt F) rG.toLoadRect f = f := Memref.readAt_unit_zero (Elt F) cc0_scratch2 hz3 _ f
omit [FloatOps F] in
theorem write_s (f w : S512x256.Idx → F .bf16) : (sM.access rS).write (Elt F) f w Finset.univ = w := Memref.write_access_unit_zero_univ (Elt F) cc0_scratch0 hz2 _ f w
omit [FloatOps F] in
theorem write_o (f w : S512x256.Idx → F .f32) : (oM.access rS).write (Elt F) f w Finset.univ = w := Memref.write_access_unit_zero_univ (Elt F) cc0_stg2_0 hz2 _ f w

theorem pay23 (w : S16x256.Idx → F .bf16) (p : Fin 16) (q : Fin 256) :
    k0_pay3 (k0_pay2 w) (ValueIdx.ix3 (n0 := 1) (n1 := 16) (n2 := 256) 0 p q) = w (tileIx p q) := by
  unfold k0_pay3 k0_pay2
  rw [shapeCast_self]
  exact ValueIdx.shapeCast_ab_1ab_apply _ _ _ p q

/-- The own rows, stored to the own slot. -/
theorem own1 (c : Dev nD) (f : S32x16x256.Idx → F .bf16) :
    ((aM : Memref sig .tc .vmem S32x16x256 .bf16).view.loc (c : Thread nD τ) ↦[slotSet c]{fullShare}
        ((aM.access (rSlot c)).write (Elt F) f (k0_pay3 (k0_pay2 ((sM.access (rRows c)).read (Elt F) (staged m ρ c)))) Finset.univ) : sProp 𝕄)
      = aPts c (slotSet c) (gather1 m ρ c) := by
  refine pointsTo_congr fun i hi => ?_
  obtain ⟨p, q, rfl⟩ := slot_exists i hi
  rw [store_slot_a, pay23]
  exact load_rows c _ p q

/-- The product, stored to the own slot. -/
theorem own2 (c : Dev nD) (f : S32x16x256.Idx → F .bf16) :
    ((bM : Memref sig .tc .vmem S32x16x256 .bf16).view.loc (c : Thread nD τ) ↦[slotSet c]{fullShare}
        ((bM.access (rSlot c)).write (Elt F) f (k0_pay4 (gather1 m ρ c) (wblk m ρ c)) Finset.univ) : sProp 𝕄)
      = bPts c (slotSet c) fullShare (gather2 m ρ) := by
  refine pointsTo_congr fun i hi => ?_
  obtain ⟨p, q, rfl⟩ := slot_exists i hi
  exact store_slot_b c f _ p q

/-! ## The body -/

section Body

variable (K : Dev nD × Cell → ℕ) (c : Dev nD)

abbrev tPts (f : S512x256.Idx → F .bf16) : sProp 𝕄 := ((c : Thread nD τ).loc cc0_stg0_0) ↦{fullShare} f
abbrev wPts (f : S256x256.Idx → F .bf16) : sProp 𝕄 := ((c : Thread nD τ).loc cc0_stg1_0) ↦{fullShare} f
abbrev oPts (f : S512x256.Idx → F .f32) : sProp 𝕄 := ((c : Thread nD τ).loc cc0_stg2_0) ↦{fullShare} f

/-- The positions at the peers' semaphores of array `k`, before and after the waits; the credit to wait with. -/
abbrev posO (k : Fin 4) (n : ℕ) : sProp 𝕄 := bigSep (others c) fun p => atPos ER (dmaCell k c p) n ∅ 0
abbrev credO (k : Fin 4) : sProp 𝕄 := bigSep (others c) fun p => cred (tallyAt (dmaCell k c p) () N)
/-- The tokens for the transfers counted on array `kS` here and `kL` at the peers. -/
abbrev tokO (kS kL : Fin 4) : sProp 𝕄 := bigSep (others c) fun p => iprop(dutyTok ER (dmaCell kS c p) 0 p ∗ dutyTok ER (dmaCell kL p c) 0 c)

def tailPre : sProp 𝕄 :=
  iprop(St m ρ K c 0 ∗ (bPts c (slotSet c) (partOf c) (gather2 m ρ) ∗ bigSep (others c) fun p => bPts c (slotSet p) fullShare (gather2 m ρ))
    ∗ (∃ f, oPts c f) ∗ credO c 2 ∗ posO c 2 0)
def tailPost : sProp 𝕄 :=
  iprop(St m ρ K c 0 ∗ bPts c Finset.univ fullShare (gather2 m ρ) ∗ oPts c (result m ρ) ∗ posO c 2 1)

theorem tail_wp (Q : PUnit → sProp 𝕄) : iprop(tailPre m ρ K c ∗ (tailPost m ρ K c -∗ Q ⟨⟩)) ⊢ WP c (tailP c) Q := by
  unfold tailPre tailPost tailP
  rw [part_gather]
  iintro ⟨⟨HS, ⟨Hb, Hrest⟩, ⟨%fo, Ho⟩, Hc, Hp⟩, Hk⟩
  unfold bPts
  iapply (wp_load 𝒱₀ (c : Thread nD τ) none Set.univ (m := bM) (Finset.subset_univ _)) $$ Hb; iintro Hb
  rw [read_b]
  iapply (wp_load 𝒱₀ (c : Thread nD τ) none Set.univ (m := oM) (Finset.subset_univ _)) $$ Ho; iintro Ho
  iapply (wp_store 𝒱₀ (c : Thread nD τ) none Set.univ (m := oM) (r := rS) (Mk := Finset.univ) (Finset.subset_univ _)) $$ Ho; iintro Ho
  rw [write_o]
  iapply (wp_all (c := c) (fin2 c) (fun p => iprop(cred (tallyAt (dmaCell 2 c p) () N) ∗ atPos ER (dmaCell 2 c p) 0 ∅ 0))
    (fun p => iprop(atPos ER (dmaCell 2 c p) 1 ∅ 0 ∗ bPts c (slotSet c) (partOf p) (gather2 m ρ))) (fun _ => St m ρ K c 0)
    (fun r _ k => fin2_step m ρ K c 0 above_zero r k) _) $$ [HS Hc Hp]
  · isplitr [HS]
    · rw [bigSep_sep']; isplitl [Hc] <;> iassumption
    iexact HS
  rw [bigSep_sep']
  iintro ⟨⟨Hp, Hl⟩, HS⟩
  unfold WP
  rw [wp_ret]; imodintro
  iapply Hk
  isplitl [HS]; · iexact HS
  isplitl [Hb Hrest Hl]
  · ihave H := (Entails.of_eq (part_gather c (gather2 m ρ)).symm) $$ [Hb Hrest]
    · isplitl [Hb]
      · unfold bPts; iexact Hb
      unfold bPts; iexact Hrest
    icases H with ⟨Hown, Hoth⟩
    ihave Hown := (Entails.of_eq (bPts_parts c c (slotSet c) (gather2 m ρ)).symm) $$ [Hown Hl]
    · isplitl [Hown] <;> iassumption
    ihave H := (Entails.of_eq (bPts_slots c fullShare (gather2 m ρ)).symm) $$ [Hown Hoth]
    · isplitl [Hown] <;> iassumption
    unfold bPts; iexact H
  isplitl [Ho]; · iexact Ho
  iexact Hp

def midPre : sProp 𝕄 :=
  iprop(St m ρ K c (owD 3 c all31) ∗ aPts c Finset.univ (gather1 m ρ c) ∗ wPts c (wblk m ρ c) ∗ (∃ f, bPts c (slotSet c) fullShare f)
    ∗ (bigSep (others c) fun p => iprop(∃ f, bPts p (slotSet c) fullShare f)) ∗ sPts c (rowSet c) (staged m ρ c)
    ∗ (∃ f, oPts c f) ∗ tokO c 2 3 ∗ (credO c 0 ∗ posO c 0 0) ∗ (credO c 3 ∗ posO c 3 0) ∗ posO c 2 0)
def midPost : sProp 𝕄 :=
  iprop(tailPost m ρ K c ∗ aPts c Finset.univ (gather1 m ρ c) ∗ wPts c (wblk m ρ c) ∗ sPts c Finset.univ (staged m ρ c) ∗ posO c 0 1 ∗ posO c 3 1)

theorem mid_wp (Q : PUnit → sProp 𝕄) : iprop(midPre m ρ K c ∗ (midPost m ρ K c -∗ Q ⟨⟩)) ⊢ WP c (midP c) Q := by
  unfold midPre midPost midP
  iintro ⟨⟨HS, Ha, Hw, ⟨%fb, Hb⟩, Hbo, Hs, Ho, Ht, HW0, HW3, Hp2⟩, Hk⟩
  unfold aPts
  iapply (wp_load 𝒱₀ (c : Thread nD τ) none Set.univ (m := aM) (Finset.subset_univ _)) $$ Ha; iintro Ha
  rw [read_a]
  iapply (wp_load 𝒱₀ (c : Thread nD τ) none Set.univ (m := wM) (Finset.subset_univ _)) $$ Hw; iintro Hw
  rw [read_w]
  unfold bPts
  iapply (wp_load_rect 𝒱₀ (c : Thread nD τ) none Set.univ (m := bM) (r := rSlot c) (by rw [accSlot_set_b])) $$ Hb; iintro Hb
  iapply (wp_store 𝒱₀ (c : Thread nD τ) none Set.univ (m := bM) (r := rSlot c) (Mk := Finset.univ) (by rw [View.setOn_univ, accSlot_set_b])) $$ Hb; iintro Hb
  ihave Hb := (Entails.of_eq (own2 m ρ c fb)) $$ Hb
  iapply (wp_all (c := c) (fin1 c) (fun p => iprop(cred (tallyAt (dmaCell 0 c p) () N) ∗ atPos ER (dmaCell 0 c p) 0 ∅ 0))
    (fun p => iprop(atPos ER (dmaCell 0 c p) 1 ∅ 0 ∗ sPts c (rowSet p) (staged m ρ c))) (fun _ => St m ρ K c (owD 3 c all31))
    (fun r _ k => fin1_step m ρ K c _ (above_3 (by omega) c _) r k) _) $$ [HS HW0]
  · isplitr [HS]
    · rw [bigSep_sep']; iexact HW0
    iexact HS
  rw [bigSep_sep']
  iintro ⟨⟨Hp0, Hso⟩, HS⟩
  ihave Hb := (Entails.of_eq (bPts_parts c c (slotSet c) (gather2 m ρ))) $$ Hb
  icases Hb with ⟨Hb, Hbl⟩
  iapply (wp_all (c := c) (snd2 c) (fun p => iprop((dutyTok ER (dmaCell 2 c p) 0 p ∗ dutyTok ER (dmaCell 3 p c) 0 c)
      ∗ bPts c (slotSet c) (partOf p) (gather2 m ρ) ∗ ∃ f, bPts p (slotSet c) fullShare f))
    (fun p => cred (tallyAt (dmaCell 2 c p) () N)) (fun l => St m ρ K c (owD 3 c l + 0))
    (fun r l k => snd2_step m ρ K c 0 r l k) _) $$ [HS Ht Hbl Hbo]
  · isplitr [HS]
    · rw [bigSep_three]
      isplitl [Ht]; · iexact Ht
      isplitl [Hbl]; · iexact Hbl
      unfold bPts; iexact Hbo
    rw [add_zero]; iexact HS
  iintro ⟨Hc2, HS⟩
  iapply (wp_all (c := c) (rcv2 c) (fun p => iprop(cred (tallyAt (dmaCell 3 c p) () N) ∗ atPos ER (dmaCell 3 c p) 0 ∅ 0))
    (fun p => iprop(atPos ER (dmaCell 3 c p) 1 ∅ 0 ∗ bPts c (slotSet p) fullShare (gather2 m ρ))) (fun _ => St m ρ K c 0)
    (fun r _ k => rcv2_step m ρ K c 0 above_zero r k) _) $$ [HS HW3]
  · isplitr [HS]
    · rw [bigSep_sep']; iexact HW3
    rw [show owD 3 c [] = 0 from rfl, add_zero]; iexact HS
  rw [bigSep_sep']
  iintro ⟨⟨Hp3, Hbo⟩, HS⟩
  iapply (tail_wp m ρ K c Q)
  isplitr [Hk Ha Hw Hs Hso Hp0 Hp3]
  · unfold tailPre
    isplitl [HS]; · iexact HS
    isplitl [Hb Hbo]
    · isplitl [Hb] <;> iassumption
    isplitl [Ho]; · iexact Ho
    isplitl [Hc2] <;> iassumption
  iintro HT
  iapply Hk
  isplitl [HT]; · iexact HT
  isplitl [Ha]; · iexact Ha
  isplitl [Hw]; · iexact Hw
  isplitl [Hs Hso]
  · rw [sPts_rows]; isplitl [Hs] <;> iassumption
  isplitl [Hp0] <;> iassumption

def headPre : sProp 𝕄 :=
  iprop(St m ρ K c (owD 1 c all31 + owD 3 c all31) ∗ tPts c (xblk m ρ c) ∗ (∃ f, sPts c Finset.univ f) ∗ (∃ f, aPts c (slotSet c) f)
    ∗ (cred (tallyAt (barCell c) () 31) ∗ atPos ER (barCell c) 0 ∅ 0) ∗ tokO c 0 1 ∗ (credO c 1 ∗ posO c 1 0)
    ∗ wPts c (wblk m ρ c) ∗ (∃ f, bPts c (slotSet c) fullShare f)
    ∗ (∃ f, oPts c f) ∗ tokO c 2 3 ∗ posO c 0 0 ∗ (credO c 3 ∗ posO c 3 0) ∗ posO c 2 0)
def headPost : sProp 𝕄 :=
  iprop(midPost m ρ K c ∗ tPts c (xblk m ρ c) ∗ atPos ER (barCell c) 1 ∅ 0 ∗ posO c 1 1)

theorem head_wp (Q : PUnit → sProp 𝕄) : iprop(headPre m ρ K c ∗ (headPost m ρ K c -∗ Q ⟨⟩)) ⊢ WP c (headP c) Q := by
  unfold headPre headPost headP
  iintro ⟨⟨HS, Hx, ⟨%fs, Hs⟩, ⟨%fa, Ha⟩, HB, Ht, HW1, Hw, Hb, Ho, Ht2, Hp0, HW3, Hp2⟩, Hk⟩
  iapply (wp_load 𝒱₀ (c : Thread nD τ) none Set.univ (m := tM) (Finset.subset_univ _)) $$ Hx; iintro Hx
  rw [read_t]
  unfold sPts
  iapply (wp_load 𝒱₀ (c : Thread nD τ) none Set.univ (m := sM) (Finset.subset_univ _)) $$ Hs; iintro Hs
  iapply (wp_store 𝒱₀ (c : Thread nD τ) none Set.univ (m := sM) (r := rS) (Mk := Finset.univ) (Finset.subset_univ _)) $$ Hs; iintro Hs
  rw [write_s]
  iapply (bar_step m ρ K c _ (above_13 (by omega) c all31) _) $$ [HB HS]
  · isplitl [HB] <;> iassumption
  unfold barPay
  rw [bigSep_sep']
  iintro ⟨⟨HpB, Hao, Hbo⟩, HS⟩
  ihave Hs := (Entails.of_eq (sPts_rows c (staged m ρ c))) $$ [Hs]
  · unfold sPts; iexact Hs
  icases Hs with ⟨Hs, Hso⟩
  iapply (wp_all (c := c) (snd1 c) (fun p => iprop((dutyTok ER (dmaCell 0 c p) 0 p ∗ dutyTok ER (dmaCell 1 p c) 0 c)
      ∗ sPts c (rowSet p) (staged m ρ c) ∗ ∃ f, aPts p (slotSet c) f))
    (fun p => cred (tallyAt (dmaCell 0 c p) () N)) (fun l => St m ρ K c (owD 1 c l + owD 3 c all31))
    (fun r l k => snd1_step m ρ K c _ r l k) _) $$ [HS Ht Hso Hao]
  · isplitr [HS]
    · rw [bigSep_three]
      isplitl [Ht]; · iexact Ht
      isplitl [Hso] <;> iassumption
    iexact HS
  iintro ⟨Hc0, HS⟩
  unfold sPts aPts
  iapply (wp_load_rect 𝒱₀ (c : Thread nD τ) none Set.univ (m := sM) (r := rRows c) (by rw [accRows_set])) $$ Hs; iintro Hs
  iapply (wp_load_rect 𝒱₀ (c : Thread nD τ) none Set.univ (m := aM) (r := rSlot c) (by rw [accSlot_set_a])) $$ Ha; iintro Ha
  iapply (wp_store 𝒱₀ (c : Thread nD τ) none Set.univ (m := aM) (r := rSlot c) (Mk := Finset.univ) (by rw [View.setOn_univ, accSlot_set_a])) $$ Ha; iintro Ha
  ihave Ha := (Entails.of_eq (own1 m ρ c fa)) $$ Ha
  iapply (wp_all (c := c) (rcv1 c) (fun p => iprop(cred (tallyAt (dmaCell 1 c p) () N) ∗ atPos ER (dmaCell 1 c p) 0 ∅ 0))
    (fun p => iprop(atPos ER (dmaCell 1 c p) 1 ∅ 0 ∗ aPts c (slotSet p) (gather1 m ρ c))) (fun _ => St m ρ K c (owD 3 c all31))
    (fun r _ k => rcv1_step m ρ K c _ (above_3 (by omega) c _) r k) _) $$ [HS HW1]
  · isplitr [HS]
    · rw [bigSep_sep']; iexact HW1
    rw [show owD 1 c [] = 0 from rfl, zero_add]; iexact HS
  rw [bigSep_sep']
  iintro ⟨⟨Hp1, Hao⟩, HS⟩
  iapply (mid_wp m ρ K c Q)
  isplitr [Hk Hx HpB Hp1]
  · unfold midPre
    isplitl [HS]; · iexact HS
    isplitl [Ha Hao]
    · rw [aPts_slots]; isplitl [Ha] <;> iassumption
    isplitl [Hw]; · iexact Hw
    isplitl [Hb]; · iexact Hb
    isplitl [Hbo]; · iexact Hbo
    isplitl [Hs]; · unfold sPts; iexact Hs
    isplitl [Ho]; · iexact Ho
    isplitl [Ht2]; · iexact Ht2
    isplitl [Hc0 Hp0]
    · isplitl [Hc0] <;> iassumption
    isplitl [HW3] <;> iassumption
  iintro HM
  iapply Hk
  isplitl [HM]; · iexact HM
  isplitl [Hx]; · iexact Hx
  isplitl [HpB] <;> iassumption

end Body

end Cert.KernelIdeal.AllReduce

end
-- ==== Proof.Whole.lean ====
/-
The whole body: the signals, the work, and the closing of the semaphores.
-/
module

public import proofs.«01_k».proof.Proof.Body

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The whole body -/

section Whole

variable (K : Dev nD × Cell → ℕ) (c : Dev nD)

omit [FloatOps F] in
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- Over a device's semaphores in the four arrays: in each, the one of its own number and those of its peers. -/
theorem arrays_split (Φ : Fin 4 × Dev nD → sProp 𝕄) :
    bigSep Finset.univ Φ = iprop((Φ (0, c) ∗ bigSep (others c) fun p => Φ (0, p)) ∗ (Φ (1, c) ∗ bigSep (others c) fun p => Φ (1, p))
      ∗ (Φ (2, c) ∗ bigSep (others c) fun p => Φ (2, p)) ∗ (Φ (3, c) ∗ bigSep (others c) fun p => Φ (3, p))) := by
  rw [bigSep_univ_prod, bigSep_four, bigSep_univ_at _ c, bigSep_univ_at _ c, bigSep_univ_at _ c, bigSep_univ_at _ c]

/-- The tokens of the duties device `c` pays. -/
def payToks : sProp 𝕄 := iprop((bigSep (others c) fun p => dutyTok ER (barCell p) 0 c) ∗ tokO c 0 1 ∗ tokO c 2 3)
def posAll : sProp 𝕄 := iprop(atPos ER (barCell c) 0 ∅ 0 ∗ bigSep Finset.univ fun kj : Fin 4 × Dev nD => atPos ER (dmaCell kj.1 c kj.2) 0 ∅ 0)
def ghost : sProp 𝕄 := iprop(recs m ρ K ∗ posAll c ∗ payToks c)
def creds : sProp 𝕄 := iprop(cred (tallyAt (barCell c) () 31) ∗ credO c 1 ∗ credO c 3)
def scr : sProp 𝕄 := iprop((∃ f, sPts (F := F) c Finset.univ f) ∗ (∃ f, aPts (F := F) c Finset.univ f) ∗ ∃ f, bPts (F := F) c Finset.univ fullShare f)
def zeros : sProp 𝕄 := iprop(semVal (barCell c) 0 ∗ bigSep Finset.univ fun kj : Fin 4 × Dev nD => semVal (dmaCell kj.1 c kj.2) 0)

theorem close_array (k : Fin 4) :
    iprop(recs m ρ K ∗ atPos ER (dmaCell k c c) 0 ∅ 0 ∗ posO c k 1)
      ⊢ |={Set.univ}=> iprop(semVal (dmaCell k c c) 0 ∗ bigSep (others c) fun p => (semVal (dmaCell k c p) 0 : sProp 𝕄)) := by
  iintro ⟨#Hr, Hc, Ho⟩
  ihave Hi := (recs_at m ρ K (c, some (k, c))) $$ Hr
  icases Hi with ⟨#Hi, -⟩
  imod (Rounds.cell_close ER (ringRd m ρ) (Set.mem_univ (K (c, some (k, c)))) (fun h => h) (duties_own m ρ c k)) $$ [Hc] with Hc
  · isplitr; · iexact Hi
    iexact Hc
  imod (show iprop(recs m ρ K ∗ posO c k 1) ⊢ (|={Set.univ}=> bigSep (others c) fun p => (semVal (dmaCell k c p) 0 : sProp 𝕄) : sProp 𝕄) from
    (bigSep_with_persistent (R := recs m ρ K) fun p _ =>
      (sep_mono_left ((recs_at m ρ K (c, some (k, p))).trans (Laws.sep_and.trans and_elimL))).trans
        (Rounds.cell_close ER (ringRd m ρ) (Set.mem_univ (K (c, some (k, p)))) (fun h => h) (duties_later m ρ (dmaCell k c p)))).trans (bigSep_fupd _ _)) $$ [Ho] with Ho
  · isplitr; · iexact Hr
    iexact Ho
  imodintro
  isplitl [Hc] <;> iassumption

theorem close_bar : iprop(recs m ρ K ∗ atPos ER (barCell c) 1 ∅ 0) ⊢ |={Set.univ}=> (semVal (barCell c) 0 : sProp 𝕄) :=
  (sep_mono_left ((recs_at m ρ K (c, none)).trans (Laws.sep_and.trans and_elimL))).trans
    (Rounds.cell_close ER (ringRd m ρ) (Set.mem_univ (K (c, none))) (fun h => h) (duties_later m ρ (barCell c)))

def bodyPre : sProp 𝕄 :=
  iprop(ghost m ρ K c ∗ creds c ∗ levAts L lv ∗ scr (F := F) c ∗ (∃ W, owes (c : Thread nD τ) (O₀ c) W)
    ∗ tPts c (xblk m ρ c) ∗ wPts c (wblk m ρ c) ∗ ∃ f, oPts c f)
def bodyEnd : sProp 𝕄 :=
  iprop(scr (F := F) c ∗ zeros c ∗ (∃ W, owes (c : Thread nD τ) 0 W) ∗ tPts c (xblk m ρ c) ∗ wPts c (wblk m ρ c) ∗ oPts c (result m ρ))

/-- What the signals give away. -/
theorem give (f g : S32x16x256.Idx → F .bf16) :
    iprop((bigSep (others c) fun p => aPts c (slotSet p) f) ∗ bigSep (others c) fun p => bPts c (slotSet p) fullShare g)
      ⊢ bigSep (others c) fun p => barPay (F := F) p c := by
  rw [← bigSep_sep']
  refine bigSep_mono fun p _ => ?_
  show iprop(aPts c (slotSet p) f ∗ bPts c (slotSet p) fullShare g) ⊢ barPay (F := F) p c
  unfold barPay
  iintro ⟨Ha, Hb⟩
  isplitl [Ha]
  · iexists f; iexact Ha
  · iexists g; iexact Hb

theorem close_all : iprop(headPost m ρ K c ∗ atPos ER (dmaCell 0 c c) 0 ∅ 0 ∗ atPos ER (dmaCell 1 c c) 0 ∅ 0 ∗ atPos ER (dmaCell 2 c c) 0 ∅ 0 ∗ atPos ER (dmaCell 3 c c) 0 ∅ 0)
    ⊢ |={Set.univ}=> bodyEnd m ρ c := by
  unfold headPost midPost tailPost St bodyEnd scr zeros
  iintro ⟨⟨⟨⟨⟨#Hr, -, HO⟩, Hb, Hout, Hp2⟩, Ha, Hw, Hs, Hp0, Hp3⟩, Hx, HpB, Hp1⟩, Hc0, Hc1, Hc2, Hc3⟩
  imod (close_bar m ρ K c) $$ [HpB] with HpB
  · isplitr; · iexact Hr
    iexact HpB
  imod (close_array m ρ K c 0) $$ [Hc0 Hp0] with H0
  · isplitr; · iexact Hr
    isplitl [Hc0] <;> iassumption
  imod (close_array m ρ K c 1) $$ [Hc1 Hp1] with H1
  · isplitr; · iexact Hr
    isplitl [Hc1] <;> iassumption
  imod (close_array m ρ K c 2) $$ [Hc2 Hp2] with H2
  · isplitr; · iexact Hr
    isplitl [Hc2] <;> iassumption
  imod (close_array m ρ K c 3) $$ [Hc3 Hp3] with H3
  · isplitr; · iexact Hr
    isplitl [Hc3] <;> iassumption
  imodintro
  isplitl [Hs Ha Hb]
  · isplitl [Hs]; · iexists _; iexact Hs
    isplitl [Ha]; · iexists _; iexact Ha
    iexists _; iexact Hb
  isplitl [HpB H0 H1 H2 H3]
  · isplitl [HpB]; · iexact HpB
    rw [arrays_split c]
    isplitl [H0]; · iexact H0
    isplitl [H1]; · iexact H1
    isplitl [H2] <;> iassumption
  isplitl [HO]; · iexact HO
  isplitl [Hx]; · iexact Hx
  isplitl [Hw] <;> iassumption

theorem body_wp (Q : PUnit → sProp 𝕄) : iprop(bodyPre m ρ K c ∗ (bodyEnd m ρ c -∗ Q ⟨⟩)) ⊢ WP c bodyP Q := by
  unfold bodyPre ghost posAll payToks creds scr bodyP
  rw [arrays_split c]
  iintro ⟨⟨⟨#Hr, ⟨HpB, ⟨Hc0, Hp0⟩, ⟨Hc1, Hp1⟩, ⟨Hc2, Hp2⟩, Hc3, Hp3⟩, HtB, Ht1, Ht2⟩, ⟨HcB, Hk1, Hk3⟩, #Hl, ⟨Hs, ⟨%fa, Ha⟩, %fb, Hb⟩, HO, Hx, Hw, Hout⟩, Hk⟩
  unfold WP
  simp only [wp_deviceId]
  ihave Ha := (Entails.of_eq (aPts_slots c fa)) $$ Ha
  icases Ha with ⟨Ha, Hao⟩
  ihave Hb := (Entails.of_eq (bPts_slots c fullShare fb)) $$ Hb
  icases Hb with ⟨Hb, Hbo⟩
  ihave Hgive := (give c fa fb) $$ [Hao Hbo]
  · isplitl [Hao] <;> iassumption
  iapply (wp_all (c := c) (sigS c) (fun p => iprop(dutyTok ER (barCell p) 0 c ∗ barPay (F := F) p c)) (fun _ => iprop(emp))
    (fun l => St m ρ K c (owB c l + (owD 1 c all31 + owD 3 c all31))) (fun r l k => sig_step m ρ K c _ r l k) _) $$ [HtB Hgive HO]
  · isplitr [HO]
    · rw [bigSep_sep']; isplitl [HtB] <;> iassumption
    unfold St O₀
    isplitr; · iexact Hr
    isplitr; · iexact Hl
    iexact HO
  rw [show owB c [] = 0 from rfl, zero_add]
  iintro ⟨-, HS⟩
  iapply wp_fupd
  iapply (head_wp m ρ K c fun _ => iprop(|={Set.univ}=> Q ⟨⟩))
  unfold headPre
  isplitr [Hk Hc0 Hc1 Hc2 Hc3]
  · isplitl [HS]; · iexact HS
    isplitl [Hx]; · iexact Hx
    isplitl [Hs]; · iexact Hs
    isplitl [Ha]; · iexists fa; iexact Ha
    isplitl [HcB HpB]
    · isplitl [HcB] <;> iassumption
    isplitl [Ht1]; · iexact Ht1
    isplitl [Hk1 Hp1]
    · isplitl [Hk1] <;> iassumption
    isplitl [Hw]; · iexact Hw
    isplitl [Hb]; · iexists fb; iexact Hb
    isplitl [Hout]; · iexact Hout
    isplitl [Ht2]; · iexact Ht2
    isplitl [Hp0]; · iexact Hp0
    isplitl [Hk3 Hp3]
    · isplitl [Hk3] <;> iassumption
    iexact Hp2
  · iintro H
    imod (close_all m ρ K c) $$ [H Hc0 Hc1 Hc2 Hc3] with H
    · isplitl [H]; · iexact H
      isplitl [Hc0]; · iexact Hc0
      isplitl [Hc1]; · iexact Hc1
      isplitl [Hc2] <;> iassumption
    imodintro
    iapply Hk $$ H

end Whole

end Cert.KernelIdeal.AllReduce

end
-- ==== Proof.Data.lean ====
/-
What the kernel call is given and gives on each device, and that its body does so.
-/
module

public import proofs.«01_k».proof.Proof.Whole

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def Φ₀ (c : Dev nD) : sProp 𝕄 := iprop((∃ K, ghost m ρ K c) ∗ creds c ∗ levAts L lv ∗ scr (F := F) c)
def Φ₁ (c : Dev nD) : sProp 𝕄 := iprop(scr (F := F) c ∗ zeros c)

/-- Per device: the arrays' starting contents, what the body leaves in the windows, what is held and owed around it. -/
def dats (_ : Fin 1) (c : Dev nD) : Dat τ (Elt F) Unit ℕ UU ℕ cfg0 c where
  A w := (s₀ m ρ).mem ((cfg0.win w).arr.view.loc (c : Thread nD τ))
  after w _ := match w with | ⟨0, _⟩ => xblk m ρ c | ⟨1, _⟩ => wblk m ρ c | ⟨2, _⟩ => result m ρ
  Φ t := match t with | ⟨0, _⟩ => Φ₀ m ρ c | ⟨_ + 1, _⟩ => Φ₁ (F := F) c
  q _ := fullShare
  owed t := match t with | ⟨0, _⟩ => O₀ c | ⟨_ + 1, _⟩ => 0

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def callPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def callPost (c : Dev nD) : sProp 𝕄 :=
  iprop(Φ₁ (F := F) c ∗ (dats m ρ 0 c).owesAt () t0_0.succ
    ∗ stg c cc0_stg0_0 (xblk m ρ c) ∗ stg c cc0_stg1_0 (wblk m ρ c) ∗ stg c cc0_stg2_0 (result m ρ))

theorem call_wp (c : Dev nD) : callPre m ρ c ⊢ WP c bodyP fun _ => callPost m ρ c := by
  unfold callPre Φ₀
  iintro ⟨⟨⟨%K, Hg⟩, Hc, Hl, Hs⟩, Ho, ⟨%d0, %g0, %hg0, Hx⟩, ⟨%d1, %g1, %hg1, Hw⟩, ⟨%d2, %g2, %hg2, Hout⟩⟩
  have hx : g0 = xblk m ρ c := by rw [hg0]; unfold Dat.before; rw [if_pos (fetch0_0 t0_0)]; rfl
  have hw : g1 = wblk m ρ c := by rw [hg1]; unfold Dat.before; rw [if_pos (fetch0_1 t0_0)]; rfl
  subst hx
  subst hw
  unfold Dat.owesAt Pipeline.owesWithin
  icases Ho with ⟨%W, %hW, HO⟩
  rw [show (dats m ρ 0 c).owed t0_0.castSucc = O₀ c from rfl]
  iapply (body_wp m ρ K c fun _ => callPost m ρ c)
  unfold bodyPre
  isplitl [Hg Hc Hl Hs HO Hx Hw Hout]
  · isplitl [Hg]; · iexact Hg
    isplitl [Hc]; · iexact Hc
    isplitl [Hl]; · iexact Hl
    isplitl [Hs]; · iexact Hs
    isplitl [HO]; · iexists W; iexact HO
    isplitl [Hx]; · iexact Hx
    isplitl [Hw]; · iexact Hw
    iexists g2; iexact Hout
  · unfold bodyEnd callPost Φ₁ Dat.owesAt Pipeline.owesWithin
    rw [show (dats m ρ 0 c).owed t0_0.succ = 0 from rfl]
    iintro ⟨Hs, Hz, ⟨%W', HO⟩, Hx, Hw, Hout⟩
    isplitl [Hs Hz]
    · isplitl [Hs] <;> iassumption
    isplitl [HO]
    · iexists W'
      isplitr; · (ipureintro; exact fun _ _ => Or.inl trivial)
      iexact HO
    isplitl [Hx]
    · iexists _; isplitr; · (ipureintro; rfl)
      iexact Hx
    isplitl [Hw]
    · iexists _; isplitr; · (ipureintro; rfl)
      iexact Hw
    iexists _; isplitr; · (ipureintro; rfl)
    iexact Hout

theorem body_obligation (c : Dev nD) : BodyObligation (dats (F := F) m ρ 0 c) (defs₀ (F := F)) 𝒱₀ () Set.univ := fun t => by
  rw [fin_N0 t]
  rw [bigSep_W0, bigSep_W0]
  simp only [owns_whole]
  have h := call_wp m ρ c
  unfold WP at h
  rw [← body_eq] at h
  exact h

end Cert.KernelIdeal.AllReduce

end
-- ==== Proof.Launch.lean ====
/-
The launch: the cells and tokens every device is dealt, the credit it starts with, and the run of the whole program.
-/
module

public import proofs.«01_k».proof.Proof.Data
public import Idealize.ShloMosaic.Lib.Pipeline.CollectiveSegs

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

abbrev osem : Fin 4 × Dev nD → SemLoc sig := fun kj => .dma (dsem kj.1 kj.2)

theorem win_sem_lt : ∀ (w : Fin cfg0.W) (s : Fin (cfg0.win w).nbuf), ((cfg0.win w).sem s).val < 3 := by decide

theorem ownSemFacts : Pipeline.OwnSemFacts cfg0.spec osem where
  isScoped := by decide +kernel
  inj := fun x y h => by
    have h' : dsem x.1 x.2 = dsem y.1 y.2 := SemLoc.dma.inj h
    exact Prod.ext (dsem_inj h').1 (dsem_inj h').2
  disj := fun k w s h => by
    have h1 : dsem k.1 k.2 = (cfg0.win w).sem s := SemLoc.dma.inj h
    have h2 := win_sem_lt w s
    rw [← h1] at h2
    have h3 : (dsem k.1 k.2).val = 3 + 32 * k.1.val + k.2.val := rfl
    omega

theorem csem_injective : Function.Injective csem := by
  intro x y h
  rcases x with _ | ⟨k, j⟩ <;> rcases y with _ | ⟨k', j'⟩
  · rfl
  · exact absurd h (by intro h; cases h)
  · exact absurd h (by intro h; cases h)
  · have h' : dsem k j = dsem k' j' := SemLoc.dma.inj h
    exact congrArg some (Prod.ext (dsem_inj h').1 (dsem_inj h').2)

theorem kcell_injective : Function.Injective (kcell : Dev nD × Cell → GSem nD τ sig) := by
  rintro ⟨c, x⟩ ⟨c', x'⟩ h
  have h1 : c = c' := congrArg (fun g : GSem nD τ sig => g.1.1) h
  have h2 : csem x = csem x' := congrArg Prod.snd h
  exact Prod.ext h1 (csem_injective h2)
def ringCells : Finset (GSem nD τ sig) := Finset.univ.map ⟨kcell, kcell_injective⟩

omit [FloatOps F] in
theorem unscopedSems0_eq (c : Dev nD) : (unscopedSems0 c : sProp 𝕄) = semVal (barCell c) 0 := by
  unfold unscopedSems0; rw [bigSep_eq_bigSepL_of_eq [SemLoc.reg barrier0] (by decide +kernel) (by decide)]; rfl

theorem share_eq (c : Dev nD) (w : Fin cfg0.W) : (dats m ρ 0 c).share w = fullShare := by unfold Dat.share; split <;> rfl

omit [FloatOps F] in
theorem bigSep_option {I : Type} [Fintype I] [DecidableEq I] (Φ : Option I → sProp 𝕄) :
    bigSep Finset.univ Φ = iprop(Φ none ∗ bigSep Finset.univ fun i => Φ (some i)) := by
  rw [bigSep_univ_at _ none, show (Finset.univ.erase none : Finset (Option I)) = Finset.univ.map Function.Embedding.some from by
    ext x; cases x <;> simp, bigSep_map]
  rfl

/-! ## The tokens -/

/-- A cell's duties go by a device's number: the barrier's (`none`) by who signals it, a transfer semaphore's by whom it is for. -/
abbrev tokOf (x : Dev nD × Cell × Dev nD) : GSem nD τ sig × ℕ × Dev nD := (kcell (x.1, x.2.1), 0, x.2.2)
theorem tokOf_injective : Function.Injective tokOf := by
  rintro ⟨c, x, j⟩ ⟨c', x', j'⟩ h
  have h1 := kcell_injective (congrArg Prod.fst h)
  have h2 : j = j' := congrArg (fun t : GSem nD τ sig × ℕ × Dev nD => t.2.2) h
  rw [Prod.mk.injEq] at h1
  exact Prod.ext h1.1 (Prod.ext h1.2 h2)
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

/-- The tokens of device `c`'s own cells that are of use. -/
def toks (c : Dev nD) : sProp 𝕄 :=
  iprop((bigSep (others c) fun p => dutyTok ER (barCell c) 0 p)
    ∗ (bigSep (others c) fun p => dutyTok ER (dmaCell 0 c p) 0 p) ∗ (bigSep (others c) fun p => dutyTok ER (dmaCell 1 c p) 0 p)
    ∗ (bigSep (others c) fun p => dutyTok ER (dmaCell 2 c p) 0 p) ∗ bigSep (others c) fun p => dutyTok ER (dmaCell 3 c p) 0 p)

omit [FloatOps F] in
theorem toks_of (c : Dev nD) : (bigSep Finset.univ fun x : Cell × Dev nD => dutyTok ER (kcell (c, x.1)) 0 x.2 : sProp 𝕄) ⊢ toks c := by
  have h (k : Fin 4) : (bigSep Finset.univ fun j : Dev nD => bigSep Finset.univ fun u : Dev nD => dutyTok ER (dmaCell k c j) 0 u : sProp 𝕄)
      ⊢ bigSep (others c) fun p => dutyTok ER (dmaCell k c p) 0 p :=
    (bigSep_subset (Finset.subset_univ _)).trans (bigSep_mono fun p _ => bigSep_elim (Finset.mem_univ p))
  rw [bigSep_univ_prod, bigSep_option, bigSep_univ_prod, bigSep_four]
  unfold toks
  iintro ⟨Hb, H0, H1, H2, H3⟩
  isplitl [Hb]
  · iapply (show (bigSep Finset.univ fun u : Dev nD => dutyTok ER (barCell c) 0 u : sProp 𝕄) ⊢ bigSep (others c) fun p => dutyTok ER (barCell c) 0 p from
      bigSep_subset (Finset.subset_univ _)); iexact Hb
  isplitl [H0]; · iapply (h 0); iexact H0
  isplitl [H1]; · iapply (h 1); iexact H1
  isplitl [H2]; · iapply (h 2); iexact H2
  iapply (h 3); iexact H3

omit [FloatOps F] in
/-- The tokens dealt: those for barriers and landings go to the peer they are for. -/
theorem toks_deal : (bigSep Finset.univ fun c : Dev nD => (toks c : sProp 𝕄)) ⊢ bigSep Finset.univ fun c : Dev nD => payToks c := by
  unfold toks payToks tokO
  simp only [bigSep_sep']
  rw [bigSep_erase_comm (fun c p : Dev nD => (dutyTok ER (barCell c) 0 p : sProp 𝕄)),
    bigSep_erase_comm (fun c p : Dev nD => (dutyTok ER (dmaCell 1 c p) 0 p : sProp 𝕄)),
    bigSep_erase_comm (fun c p : Dev nD => (dutyTok ER (dmaCell 3 c p) 0 p : sProp 𝕄))]
  iintro ⟨Hb, H0, H1, H2, H3⟩
  isplitl [Hb]; · iexact Hb
  isplitl [H0 H1]
  · isplitl [H0] <;> iassumption
  isplitl [H2] <;> iassumption

/-! ## The global step -/

def G (c : Dev nD) : sProp 𝕄 :=
  iprop((bigSep Finset.univ fun x : Cell => roundState ER (ringRd m ρ) (kcell (c, x)) 0)
    ∗ (bigSep Finset.univ fun x : Cell => iprop(atPos ER (kcell (c, x)) 0 ∅ 0 ∗ reached ER (kcell (c, x)) 0)) ∗ toks c)
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun x : Cell => Φ (kcell (c, x)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of c
  iintro HX
  imod (Rounds.fund ER (ringRd m ρ) ringCells ringToks) $$ HX with ⟨Hst, Hr, Hat, Htok⟩
  imodintro
  ihave Hst := (Entails.of_eq (hX fun g => roundState ER (ringRd m ρ) g 0)) $$ Hst
  ihave Hat := (Entails.of_eq (hX fun g => atPos ER g 0 ∅ 0)) $$ Hat
  ihave Hr := (Entails.of_eq (hX fun g => reached ER g 0)) $$ Hr
  ihave Htok := hT $$ Htok
  unfold G; simp only [bigSep_sep']
  isplitl [Hst]; · iexact Hst
  isplitl [Hat Hr]
  · isplitl [Hat] <;> iassumption
  iexact Htok

omit [FloatOps F] in
theorem sems0 (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (kcell (c, x)) 0 : sProp 𝕄) := by
  rw [unscopedSems0_eq, bigSep_option]
  unfold Pipeline.ownSems0
  iintro ⟨HS, HB⟩
  isplitl [HB]; · iexact HB
  iexact HS

/-- What the cells of a device are once in use. -/
def inUse (c : Dev nD) : sProp 𝕄 :=
  iprop((bigSep Finset.univ fun x : Cell => iprop(∃ κ : ℕ, cellInv ER (ringRd m ρ) κ (kcell (c, x))))
    ∗ (bigSep Finset.univ fun x : Cell => iprop(atPos ER (kcell (c, x)) 0 ∅ 0 ∗ reached ER (kcell (c, x)) 0)) ∗ toks c)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> inUse m ρ c := by
  unfold G inUse
  iintro ⟨Hos, Hus, Hst, Hat, Htok⟩
  ihave Hv := (sems0 (F := F) c) $$ [Hos Hus]
  · isplitl [Hos] <;> iassumption
  imod (show iprop((bigSep Finset.univ fun x : Cell => semVal (kcell (c, x)) 0) ∗ bigSep Finset.univ fun x : Cell => roundState ER (ringRd m ρ) (kcell (c, x)) 0)
      ⊢ (|={Set.univ}=> bigSep Finset.univ fun x : Cell => iprop(∃ κ : ℕ, cellInv ER (ringRd m ρ) κ (kcell (c, x))) : sProp 𝕄) from by
        rw [← bigSep_sep']
        exact (bigSep_mono fun x _ => (Rounds.body_intro ER (ringRd m ρ) (kcell (c, x))).trans inv_alloc).trans (bigSep_fupd _ _)) $$ [Hv Hst] with Hinv
  · isplitl [Hv] <;> iassumption
  imodintro
  isplitl [Hinv]; · iexact Hinv
  isplitl [Hat] <;> iassumption

theorem ghost_intro (K : Dev nD × Cell → ℕ) (c : Dev nD) :
    iprop(recs m ρ K ∗ (bigSep Finset.univ fun x : Cell => atPos ER (kcell (c, x)) 0 ∅ 0) ∗ payToks c) ⊢ G' m ρ c := by
  rw [bigSep_option]
  unfold G' ghost posAll
  iintro ⟨Hr, ⟨Hb, Hd⟩, Ht⟩
  iexists K
  isplitl [Hr]; · iexact Hr
  isplitl [Hb Hd]
  · isplitl [Hb]; · iexact Hb
    iexact Hd
  iexact Ht

theorem regroup : (bigSep Finset.univ fun c : Dev nD => inUse m ρ c : sProp 𝕄) ⊢ bigSep Finset.univ (G' m ρ) := by
  unfold inUse
  rw [bigSep_sep', bigSep_sep', ← bigSep_univ_prod (fun x : Dev nD × Cell => iprop(∃ κ : ℕ, cellInv ER (ringRd m ρ) κ (kcell x))),
    bigSep_congr (s := Finset.univ) (fun (c : Dev nD) _ => bigSep_sep' Finset.univ (fun x : Cell => (atPos ER (kcell (c, x)) 0 ∅ 0 : sProp 𝕄)) (fun x => reached ER (kcell (c, x)) 0)),
    bigSep_sep', ← bigSep_univ_prod (fun x : Dev nD × Cell => (reached ER (kcell x) 0 : sProp 𝕄))]
  iintro ⟨HI, ⟨Hat, HR⟩, Htok⟩
  ihave HK := (BI.bigSep_exists_pi Finset.univ (fun (x : Dev nD × Cell) (κ : ℕ) => (cellInv ER (ringRd m ρ) κ (kcell x) : sProp 𝕄))) $$ HI
  icases HK with ⟨%K, HI⟩
  ihave Htk := (toks_deal (F := F)) $$ Htok
  iapply (bigSep_with_persistent (R := recs m ρ K) fun c _ => ghost_intro m ρ K c)
  isplitl [HI HR]
  · unfold recs
    rw [bigSep_sep']
    isplitl [HI] <;> iassumption
  · rw [bigSep_sep']
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at the launch -/

theorem sum_peers (c : Dev nD) (f : Dev nD → CellTallies nD τ sig Unit) : (all31.map fun r => f (peer c r)).sum = ∑ p ∈ others c, f p := by
  rw [← List.sum_toFinset _ all31_nodup, show all31.toFinset = Finset.univ from by ext r; simp [all31_univ r], ← map_peer, Finset.sum_map]
  rfl

omit [FloatOps F] in
/-- What every device owes a cell of each peer, every device has from each peer at its own. -/
theorem cred_peers (cell : Dev nD → Dev nD → GSem nD τ sig) (hc : ∀ p d, (cell p d).1 = (p.tc : Thread nD τ)) (n : ℕ) (c : Dev nD) :
    (Pipeline.launchCred (fun d => ∑ p ∈ others d, tallyAt (cell p d) () n) c : sProp 𝕄) = cred (∑ p ∈ others c, tallyAt (cell c p) () n) :=
  Pipeline.launchCred_of_sum _ (fun d => ∑ p ∈ others d, tallyAt (cell d p) () n)
    (Finset.sum_comm' fun d p => by simp only [Finset.mem_univ, Finset.mem_erase, true_and, and_true]; exact ne_comm)
    (fun d g hg => by
      by_contra h
      exact hg (by
        rw [Finset.sum_apply]
        exact Finset.sum_eq_zero fun p _ => tallyAt_ne_cell (fun h' => h (by rw [h', hc])) () n)) c

omit [FloatOps F] in
theorem sum_units (g : GSem nD τ sig) (s : Finset (Dev nD)) : (∑ p ∈ s, tallyAt g () 1 : CellTallies nD τ sig Unit) = tallyAt g () s.card := by
  induction s using Finset.induction_on with
  | empty => exact (tallyAt_zero g ()).symm
  | insert a s h ih => rw [Finset.sum_insert h, ih, tallyAt_add, Finset.card_insert_of_notMem h, Nat.add_comm]

omit [FloatOps F] in
theorem creds_intro (c : Dev nD) : (Pipeline.launchCred O₀ c : sProp 𝕄) ⊢ creds c := by
  have hB : (fun d : Dev nD => owB d all31) = fun d => ∑ p ∈ others d, tallyAt (barCell p) () 1 :=
    funext fun d => sum_peers d fun p => tallyAt (barCell p) () 1
  have hD (k : Fin 4) : (fun d : Dev nD => owD k d all31) = fun d => ∑ p ∈ others d, tallyAt (dmaCell k p d) () N :=
    funext fun d => sum_peers d fun p => tallyAt (dmaCell k p d) () N
  rw [show O₀ = fun d => owB d all31 + (fun d => owD 1 d all31 + owD 3 d all31) d from rfl, Pipeline.launchCred_add, Pipeline.launchCred_add, hB, hD, hD,
    cred_peers (fun p _ => barCell p) (fun _ _ => rfl), cred_peers (dmaCell 1) (fun _ _ => rfl), cred_peers (dmaCell 3) (fun _ _ => rfl),
    sum_units, Pipeline.cred_finsetSum, Pipeline.cred_finsetSum, Finset.card_erase_of_mem (Finset.mem_univ _)]
  unfold creds
  exact Entails.refl

/-! ## The run -/

def start (c : Dev nD) : sProp 𝕄 := iprop((∃ K, ghost m ρ K c) ∗ creds c ∗ levAts L lv)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ start scr
  iintro ⟨⟨Hg, Hc, Hl⟩, -, Hs, Ha, Hb⟩
  isplitl [Hg]; · iexact Hg
  isplitl [Hc]; · iexact Hc
  isplitl [Hl]; · iexact Hl
  isplitl [Hs]; · iexact Hs
  isplitl [Ha]; · iexact Ha
  iexact Hb

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, unscopedSems0_eq]
  unfold Φ₁ zeros scr Pipeline.ownSems0
  iintro ⟨⟨Hs, Ha, Hb⟩, HzB, Hz⟩
  isplitl [HzB]; · iexact HzB
  isplitl [Hz]; · iexact Hz
  isplitl [Hs]; · iexact Hs
  isplitl [Ha]; · iexact Ha
  iexact Hb

theorem lv_win : ∀ (w : Fin cfg0.W) (s : Fin (cfg0.win w).nbuf), which ((cfg0.win w).sem s) = none := by decide

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by dsimp only [lv]; rw [lv_win w s]) (by
      rcases t with ⟨_ | _, ht⟩
      · exact above_all c
      · exact above_zero)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, on 32 devices and over any float values: every weakly fair execution of the
    program ends, with every device's arrays at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.AllReduce

end
-- ==== Proof.Value.lean ====
/-
The values: at the reals, what the exchange leaves on every device is the sum of the devices' blocks times the matrix.
-/
module

public import proofs.«01_k».proof.Proof.Launch
public import proofs.«01_k».proof.Proof.Gen.ReferenceIdeal.Run
public import Idealize.ShloMosaic.Lib.StackMember
public import Idealize.ShloMosaic.Lib.MatmulPlain
public import Idealize.ShloMosaic.Lib.Pointwise.Reduce
public import Idealize.ShloMosaic.Lib.Layout

@[expose] public section

set_option maxRecDepth 16384

noncomputable section

namespace Cert.KernelIdeal.AllReduce

open Cert.KernelIdeal Cert.KernelIdeal.Gen
open Idealize.ShloMosaic
open Idealize.ShloMosaic.TcCoe
open Idealize.SL Idealize.SL.RA Idealize.SL.BI
open scoped Idealize.SL.BI

/-! ## Arrays after the run -/

section Arrays

variable {F : FTy → Type} [FloatOps F] (m : (ℓ : Loc nD τ sig) → Buf (Elt F) ℓ) (ρ : Dev nD → PrngReg)

/-- A window that is its array's one block reads the array. -/
theorem read_in0 (f : S512x256.Idx → F .bf16) : (win0_0.blk (0 : Fin 1)).view.read (Elt F) f = f :=
  Memref.read_access_unit_zero (Elt F) main_arg0 (off := fun a => win0_0.index (0 : Fin 1) a * main_arg0.ty.shape.size a)
    (funext fun a => by fin_cases a <;> decide) (fun a => by fin_cases a <;> decide) f
theorem read_in1 (f : S256x256.Idx → F .bf16) : (win0_1.blk (0 : Fin 1)).view.read (Elt F) f = f :=
  Memref.read_access_unit_zero (Elt F) main_arg1 (off := fun a => win0_1.index (0 : Fin 1) a * main_arg1.ty.shape.size a)
    (funext fun a => by fin_cases a <;> decide) (fun a => by fin_cases a <;> decide) f
theorem read_out (f : S512x256.Idx → F .f32) : (win0_2.blk (0 : Fin 1)).view.read (Elt F) f = f :=
  Memref.read_access_unit_zero (Elt F) main_v1 (off := fun a => win0_2.index (0 : Fin 1) a * main_v1.ty.shape.size a)
    (funext fun a => by fin_cases a <;> decide) (fun a => by fin_cases a <;> decide) f

theorem xblk_eq (c : Dev nD) : xblk m ρ c = m ((c.tc : Thread nD τ).loc main_arg0) := read_in0 (F := F) _
theorem wblk_eq (c : Dev nD) : wblk m ρ c = m ((c.tc : Thread nD τ).loc main_arg1) := read_in1 (F := F) _

theorem finalA_arg0 (c : Dev nD) : finalA m ρ c (0 : Fin 3) = m ((c.tc : Thread nD τ).loc main_arg0) :=
  (dats (F := F) m ρ 0 c).arrAt_in (0 : Fin 3) rfl _
theorem finalA_arg1 (c : Dev nD) : finalA m ρ c (1 : Fin 3) = m ((c.tc : Thread nD τ).loc main_arg1) :=
  (dats (F := F) m ρ 0 c).arrAt_in (1 : Fin 3) rfl _

theorem finalA_out (c : Dev nD) : finalA m ρ c (2 : Fin 3) = result m ρ := by
  have h : (win0_2.blk (0 : Fin 1)).view.read (Elt F) (finalA m ρ c (2 : Fin 3)) = result m ρ := by
    unfold finalA
    rw [show cfg0.N = ((0 : Fin 1) : Fin cfg0.N).val + 1 from rfl, (dats m ρ 0 c).arrAt_succ (2 : Fin 3) (0 : Fin 1)]
    rw [show (cfg0.win (2 : Fin 3)).flush (0 : Fin 1) = true from flush0_2 _, if_pos rfl]
    exact View.read_write_univ _ _
  exact (read_out (F := F) (finalA m ρ c (2 : Fin 3))).symm.trans h

/-- The run read at the program's arrays. -/
theorem run_arrays : θ_run defs (onTc (τ := τ) (main (F := F))) ⟨m, fun _ => 0, ρ⟩ (fun r => (∀ c : Dev nD,
      r.2.mem ((c.tc : Thread nD τ).loc main_v1) = result m ρ
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (finalA_out m ρ c),
      (h.1 c (0 : Fin 3)).trans (finalA_arg0 m ρ c), (h.1 c (1 : Fin 3)).trans (finalA_arg1 m ρ c)⟩, h.2⟩) (run_main m ρ)

end Arrays

/-! ## The kernel's result at an index -/

/-- Entry `(p, q)` of the sum of the blocks times the matrix. -/
def entry (x : Fin 32 → Fin 512 → Fin 256 → EReal) (w : Fin 256 → Fin 256 → EReal) (p : Fin 512) (q : Fin 256) : EReal :=
  ∑ k : Fin 256, (∑ d : Fin 32, x d p k) * w k q

theorem dot_rows (A : FVec Ideal S16x256 .bf16) (B : FVec Ideal S256x256 .bf16) (p : Fin 16) (q : Fin 256) :
    matmul dot_S16x256_S256x256_S16x256_1_0_0_1_n_n none A B (constant S16x256 .f32 0x00000000#32) (ValueIdx.ix2 (n0 := 16) (n1 := 256) p q)
      = ∑ k : Fin 256, A (ValueIdx.ix2 (n0 := 16) (n1 := 256) p k) * B (ValueIdx.ix2 (n0 := 256) (n1 := 256) k q) := by
  refine (Ideal.matmul_plain_apply none A B (constant S16x256 .f32 0x00000000#32) p q).trans ?_
  show Ideal.ofBits .f32 0x00000000#32 + _ = _
  rw [Ideal.ofBits_zero_f32, zero_add]

theorem casts_at (x : FVec Ideal S16x256 .bf16) (p : Fin 16) (q : Fin 256) :
    shapeCast S1x16x256 (shapeCast S1x16x256 x shapeCasts_S16x256_S1x16x256) shapeCasts_S1x16x256_S1x16x256 (ValueIdx.ix3 (n0 := 1) (n1 := 16) (n2 := 256) 0 p q)
      = x (ValueIdx.ix2 (n0 := 16) (n1 := 256) p q) := by
  rw [shapeCast_self]
  exact ValueIdx.shapeCast_ab_1ab_apply x shapeCasts_S16x256_S1x16x256 0 p q

/-- The sum over the slots of a gather buffer. -/
def slotSum (v : FVec Ideal S32x16x256 .bf16) : FVec Ideal S16x256 .bf16 :=
  truncf .bf16 (multiReduction .add [0] S16x256 (extf .f32 v bitsLt_bf16_f32) 0x00000000#32 reduces_S32x16x256_S16x256 (.inl rfl) rfl) bitsLt_bf16_f32

theorem slotSum_at (v : FVec Ideal S32x16x256 .bf16) (p : Fin 16) (k : Fin 256) :
    slotSum v (ValueIdx.ix2 (n0 := 16) (n1 := 256) p k) = ∑ d : Fin 32, v (ValueIdx.ix3 (n0 := 32) (n1 := 16) (n2 := 256) d p k) := by
  show Ideal.reduceAdd reduces_S32x16x256_S16x256 v (ValueIdx.ix2 (n0 := 16) (n1 := 256) p k) = _
  refine (Ideal.reduceAdd_r3_a0 (n0 := 32) (n1 := 16) (n2 := 256) reduces_S32x16x256_S16x256 v _).trans (Finset.sum_congr rfl fun d _ => congrArg v ?_)
  funext a
  match a with
  | ⟨0, _⟩ => rfl
  | ⟨1, _⟩ => rfl
  | ⟨2, _⟩ => rfl

theorem pay4_eq (v : FVec Ideal S32x16x256 .bf16) (w : FVec Ideal S256x256 .bf16) :
    k0_pay4 (F := Ideal) v w = shapeCast S1x16x256 (shapeCast S1x16x256 (truncf .bf16 (matmul dot_S16x256_S256x256_S16x256_1_0_0_1_n_n none (slotSum v)
      (shapeCast S256x256 w shapeCasts_S256x256_S256x256) (constant S16x256 .f32 0x00000000#32)) bitsLt_bf16_f32)
      shapeCasts_S16x256_S1x16x256) shapeCasts_S1x16x256_S1x16x256 := rfl

theorem pay4_at (v : FVec Ideal S32x16x256 .bf16) (w : FVec Ideal S256x256 .bf16) (p : Fin 16) (q : Fin 256) :
    k0_pay4 (F := Ideal) v w (ValueIdx.ix3 (n0 := 1) (n1 := 16) (n2 := 256) 0 p q)
      = ∑ k : Fin 256, (∑ d : Fin 32, v (ValueIdx.ix3 (n0 := 32) (n1 := 16) (n2 := 256) d p k)) * w (ValueIdx.ix2 (n0 := 256) (n1 := 256) k q) := by
  rw [pay4_eq, casts_at, shapeCast_self]
  refine (dot_rows (slotSum v) w p q).trans (Finset.sum_congr rfl fun k _ => ?_)
  rw [slotSum_at]

theorem pay5_at (v : FVec Ideal S32x16x256 .bf16) (p : Fin 512) (q : Fin 256) :
    k0_pay5 (F := Ideal) v (ValueIdx.ix2 (n0 := 512) (n1 := 256) p q)
      = v (ValueIdx.ix3 (n0 := 32) (n1 := 16) (n2 := 256) ⟨p.val / 16, by omega⟩ ⟨p.val % 16, by omega⟩ q) := by
  unfold k0_pay5
  exact shapeCast_apply v _ _ _ (by
    rw [Shape.rowMajor_val_three, Shape.rowMajor_val_two]
    show (p.val / 16 * 16 + p.val % 16) * 256 + q.val = p.val * 256 + q.val
    rw [Nat.div_add_mod'])

section Kernel

variable (m : (ℓ : Loc nD τ sig) → Buf (Elt Ideal) ℓ) (ρ : Dev nD → PrngReg)

theorem staged_eq (c : Dev nD) : staged m ρ c = m ((c.tc : Thread nD τ).loc main_arg0) := by
  unfold staged k0_pay1
  rw [xblk_eq]
  exact (shapeCast_self _ _).trans (shapeCast_self _ _)

/-- When every device's matrix is the one matrix `w`. -/
theorem result_at (x : Fin 32 → Fin 512 → Fin 256 → EReal) (w : Fin 256 → Fin 256 → EReal)
    (hx : ∀ (c : Dev nD) p k, m ((c.tc : Thread nD τ).loc main_arg0) (ValueIdx.ix2 (n0 := 512) (n1 := 256) p k) = x c p k)
    (hw : ∀ (c : Dev nD) k q, m ((c.tc : Thread nD τ).loc main_arg1) (ValueIdx.ix2 (n0 := 256) (n1 := 256) k q) = w k q) (p : Fin 512) (q : Fin 256) :
    result m ρ (ValueIdx.ix2 (n0 := 512) (n1 := 256) p q) = entry x w p q := by
  unfold result
  rw [pay5_at]
  unfold gather2 prod
  refine (pay4_at _ _ _ _).trans (Finset.sum_congr rfl fun k _ => ?_)
  rw [wblk_eq]
  refine congrArg₂ (· * ·) (Finset.sum_congr rfl fun d _ => ?_) (hw _ k q)
  unfold gather1
  rw [staged_eq]
  refine Eq.trans (congrArg (m ((Dev.tc d : Thread nD τ).loc main_arg0)) ?_) (hx d p k)
  refine congrArg₂ (ValueIdx.ix2 (n0 := 512) (n1 := 256)) (Fin.ext ?_) rfl
  show 16 * (p.val / 16) + p.val % 16 = p.val
  exact Nat.div_add_mod p.val 16

end Kernel

/-! ## The reference's -/

section Reference

/-- Block `d`'s row `p` of the whole array. -/
def wholeIx (d : Fin 32) (p : Fin 512) (k : Fin 256) : Cert.ReferenceIdeal.S16384x256.Idx :=
  ValueIdx.ix2 (n0 := 16384) (n1 := 256) ⟨512 * d.val + p.val, by omega⟩ k

variable (t : FVec Ideal Cert.ReferenceIdeal.S16384x256 .bf16) (w : FVec Ideal Cert.ReferenceIdeal.S256x256 .bf16)

/-- The reference's result, as its run states it. -/
abbrev refOut : FVec Ideal Cert.ReferenceIdeal.S512x256 .f32 :=
  extf .f32 (truncf .bf16 (Host.dotGeneral Cert.ReferenceIdeal.dot_S512x256_S256x256_S512x256_1_0_0_1_n_n none
    (truncf .bf16 (Host.reduceAdd (shapeCast Cert.ReferenceIdeal.S32x512x256 (extf .f32 t Cert.ReferenceIdeal.Facts₀.bitsLt_bf16_f32) Cert.ReferenceIdeal.Facts₀.shapeCasts_S16384x256_S32x512x256)
      (constant Cert.ReferenceIdeal.S_ .f32 0x00000000#32) Cert.ReferenceIdeal.Facts₀.reducesTo_S32x512x256_S512x256_d0 Cert.ReferenceIdeal.Facts₀.h_S_) Cert.ReferenceIdeal.Facts₀.bitsLt_bf16_f32) w)
    Cert.ReferenceIdeal.Facts₀.bitsLt_bf16_f32) Cert.ReferenceIdeal.Facts₀.bitsLt_bf16_f32

/-- The sum of the blocks, rounded. -/
abbrev refSum : FVec Ideal Cert.ReferenceIdeal.S512x256 .bf16 :=
  truncf .bf16 (Host.reduceAdd (shapeCast Cert.ReferenceIdeal.S32x512x256 (extf .f32 t Cert.ReferenceIdeal.Facts₀.bitsLt_bf16_f32) Cert.ReferenceIdeal.Facts₀.shapeCasts_S16384x256_S32x512x256)
      (constant Cert.ReferenceIdeal.S_ .f32 0x00000000#32) Cert.ReferenceIdeal.Facts₀.reducesTo_S32x512x256_S512x256_d0 Cert.ReferenceIdeal.Facts₀.h_S_) Cert.ReferenceIdeal.Facts₀.bitsLt_bf16_f32

theorem whole_at (d : Fin 32) (p : Fin 512) (k : Fin 256) :
    shapeCast Cert.ReferenceIdeal.S32x512x256 t Cert.ReferenceIdeal.Facts₀.shapeCasts_S16384x256_S32x512x256 (ValueIdx.ix3 (n0 := 32) (n1 := 512) (n2 := 256) d p k)
      = t (wholeIx d p k) :=
  shapeCast_apply t _ _ _ (by
    unfold wholeIx
    rw [Shape.rowMajor_val_three, Shape.rowMajor_val_two]
    show (512 * d.val + p.val) * 256 + k.val = (d.val * 512 + p.val) * 256 + k.val
    rw [Nat.mul_comm 512 d.val])

theorem refSum_at (p : Fin 512) (k : Fin 256) :
    refSum t (ValueIdx.ix2 (n0 := 512) (n1 := 256) p k) = ∑ d : Fin 32, t (wholeIx d p k) := by
  show Ideal.hostReduceAdd Cert.ReferenceIdeal.Facts₀.reducesTo_S32x512x256_S512x256_d0
    (shapeCast Cert.ReferenceIdeal.S32x512x256 t Cert.ReferenceIdeal.Facts₀.shapeCasts_S16384x256_S32x512x256) (Ideal.ofBits .f32 0x00000000#32)
    (ValueIdx.ix2 (n0 := 512) (n1 := 256) p k) = _
  refine (Ideal.hostReduceAdd_r3_a0 (n0 := 32) (n1 := 512) (n2 := 256) Cert.ReferenceIdeal.Facts₀.reducesTo_S32x512x256_S512x256_d0 _ _ _).trans ?_
  rw [Ideal.ofBits_zero_f32, zero_add]
  refine Finset.sum_congr rfl fun d _ => Eq.trans (congrArg _ ?_) (whole_at t d p k)
  funext a
  match a with
  | ⟨0, _⟩ => rfl
  | ⟨1, _⟩ => rfl
  | ⟨2, _⟩ => rfl

theorem refOut_at (p : Fin 512) (q : Fin 256) :
    refOut t w (ValueIdx.ix2 (n0 := 512) (n1 := 256) p q)
      = entry (fun d p k => t (wholeIx d p k)) (fun k q => w (ValueIdx.ix2 (n0 := 256) (n1 := 256) k q)) p q := by
  refine (Idealize.ShloMosaic.StackMember.dotGeneral_plain_apply none (refSum t) w p q).trans (Finset.sum_congr rfl fun k _ => ?_)
  exact congrArg (· * w (ValueIdx.ix2 (n0 := 256) (n1 := 256) k q)) (refSum_at t p k)

end Reference

/-- On blocks of one array and copies of one matrix the two programs' results are one array. -/
theorem result_eq_refOut (m : (ℓ : Loc nD τ sig) → Buf (Elt Ideal) ℓ) (ρ : Dev nD → PrngReg)
    (t : FVec Ideal Cert.ReferenceIdeal.S16384x256 .bf16) (w : FVec Ideal Cert.ReferenceIdeal.S256x256 .bf16)
    (hx : ∀ c : Dev nD, m ((c.tc : Thread nD τ).loc main_arg0) = Layout.block ⟨2, ![512, 256]⟩ ⟨2, ![16384, 256]⟩ 0 32 c t)
    (hw : ∀ c : Dev nD, m ((c.tc : Thread nD τ).loc main_arg1) = w) : result m ρ = refOut t w := by
  funext i
  rw [ValueIdx.eq_ix2 i]
  refine (result_at m ρ (fun d p k => t (wholeIx d p k)) (fun k q => w (ValueIdx.ix2 (n0 := 256) (n1 := 256) k q)) (fun c p k => ?_)
    (fun c k q => congrFun (hw c) _) (i 0) (i 1)).trans (refOut_at t w (i 0) (i 1)).symm
  rw [hx c]
  refine (Layout.block_apply c t _ _).trans (congrArg t (funext fun a => Fin.ext ?_))
  match a with
  | ⟨0, _⟩ => exact congrArg (· + p.val) (Nat.mul_comm c.val 512)
  | ⟨1, _⟩ => rfl

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem Cert.Kernel

/-- The kernel's body table at the words is the idealized kernel's: the two texts are one. -/
theorem defs₀_eq : Cert.Kernel.defs₀ (F := Bits) = Cert.KernelIdeal.defs₀ (F := Bits) := by
  unfold Cert.Kernel.defs₀ Cert.KernelIdeal.defs₀
  refine congrArg (Defs.onTc (nD := nD) (τ := τ) (sig := sig) (Val := Elt Bits) (Λ := Cert.Kernel.Λ₀)) ?_
  funext l x
  match l, x with
  | 0, (t, s) => rfl

theorem defs_eq : Cert.Kernel.defs (F := Bits) = Cert.KernelIdeal.defs (F := Bits) :=
  congrArg (Pipeline.defs (Cert.Kernel.pcfgs (F := Bits))) defs₀_eq

/-- The kernel's frame at the words: the idealized kernel's run is proved for any floats. -/
theorem frame_kernel : Cert.quiescent_Kernel := by
  intro m ρ _
  rw [defs_eq]
  exact (θ_run Cert.KernelIdeal.defs (onTc (τ := Cert.KernelIdeal.τ) (Cert.KernelIdeal.main (F := Bits))) ⟨m, fun _ => 0, ρ⟩).mono
    (fun _ h => ⟨fun c => (h.1 c).2, h.2⟩) (Cert.KernelIdeal.AllReduce.run_arrays (F := Bits) m ρ)

theorem frame_kernelIdeal : Cert.quiescent_KernelIdeal := fun m ρ _ =>
  (θ_run Cert.KernelIdeal.defs _ _).mono (fun _ h => ⟨fun c => (h.1 c).2, h.2⟩) (Cert.KernelIdeal.AllReduce.run_arrays (F := Ideal) m ρ)

/-- The reference declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m ρ m' ρ' _ hag =>
  ⟨Cert.KernelIdeal.AllReduce.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.trans (Cert.KernelIdeal.AllReduce.result_eq_refOut m ρ _ _ (fun d => (hag d).1) (fun d => (hag d).2)), (h.1 c).2⟩)
      (Cert.KernelIdeal.AllReduce.run_arrays (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
